-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![64, 64, 64]⟩ ⟨3, ![128, 128, 256]⟩ (Layout.meshBlock [2, 2, 4] ![[0], [1], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![64, 64, 64]⟩ ⟨3, ![128, 128, 256]⟩ (Layout.meshBlock [2, 2, 4] ![[0], [1], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x64x64 : Shape := ⟨3, ![64, 64, 64]⟩
abbrev S64x64 : Shape := ⟨2, ![64, 64]⟩
abbrev S6 : Shape := ⟨1, ![6]⟩
abbrev S_ : Shape := ⟨0, ![]⟩
abbrev S64x64x1 : Shape := ⟨3, ![64, 64, 1]⟩
abbrev S1 : Shape := ⟨1, ![1]⟩
abbrev S1x64x64 : Shape := ⟨3, ![1, 64, 64]⟩
abbrev S64x1x64 : Shape := ⟨3, ![64, 1, 64]⟩
abbrev S63x64x64 : Shape := ⟨3, ![63, 64, 64]⟩
abbrev S64x63x64 : Shape := ⟨3, ![64, 63, 64]⟩
abbrev S64x64x63 : Shape := ⟨3, ![64, 64, 63]⟩

abbrev nBuf : Space → Nat
  | .hbm => 2
  | .vmem => 10
  | .smem => 0
  | _ => 0

abbrev bufTy : (tb : Table) → Fin (tcTables nBuf tb) → BufTy
  | .hbm, ⟨0, _⟩ => ⟨S64x64x64, .f32⟩
  | .hbm, ⟨1, _⟩ => ⟨S64x64x64, .f32⟩
  | .local _ .vmem, ⟨0, _⟩ => ⟨S64x64x64, .f32⟩
  | .local _ .vmem, ⟨1, _⟩ => ⟨S64x64x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64x64, .f32⟩
  | .local _ .vmem, ⟨7, _⟩ => ⟨S64x64x64, .f32⟩
  | .local _ .vmem, ⟨8, _⟩ => ⟨S64x64x64, .f32⟩
  | .local _ .vmem, ⟨9, _⟩ => ⟨S64x64x64, .f32⟩
  | _, _ => ⟨S64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .sgt v2 c0_i32
  let v16 : BitVec 32 := Scalar.extui v9
  let c0_i32_6 : BitVec 32 := 0#32
  let v17 : BitVec 1 := Scalar.cmpi .ne v16 c0_i32_6
  v17

def k0_dev1 (d0 : Dev nD) : Nat :=
  let c0_i32_114 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_111 : BitVec 32 := 1#32
  let v136 : BitVec 32 := Scalar.subi v2 c1_i32_111
  let c8_i32_113 : BitVec 32 := 8#32
  let v137 : BitVec 32 := Scalar.muli v136 c8_i32_113
  let v138 : BitVec 32 := Scalar.addi c0_i32_114 v137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_115 : BitVec 32 := 4#32
  let v139 : BitVec 32 := Scalar.muli v5 c4_i32_115
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_116 : BitVec 32 := 1#32
  let v141 : BitVec 32 := Scalar.muli v8 c1_i32_116
  let v142 : BitVec 32 := Scalar.addi v140 v141
  v142.toNat
def k0_cond2 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_2 : BitVec 32 := 1#32
  let v10 : BitVec 1 := Scalar.cmpi .slt v2 c1_i32_2
  let v18 : BitVec 32 := Scalar.extui v10
  let c0_i32_7 : BitVec 32 := 0#32
  let v19 : BitVec 1 := Scalar.cmpi .ne v18 c0_i32_7
  v19

def k0_dev2 (d0 : Dev nD) : Nat :=
  let c0_i32_114 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_111 : BitVec 32 := 1#32
  let v136 : BitVec 32 := Scalar.addi v2 c1_i32_111
  let c8_i32_113 : BitVec 32 := 8#32
  let v137 : BitVec 32 := Scalar.muli v136 c8_i32_113
  let v138 : BitVec 32 := Scalar.addi c0_i32_114 v137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_115 : BitVec 32 := 4#32
  let v139 : BitVec 32 := Scalar.muli v5 c4_i32_115
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_116 : BitVec 32 := 1#32
  let v141 : BitVec 32 := Scalar.muli v8 c1_i32_116
  let v142 : BitVec 32 := Scalar.addi v140 v141
  v142.toNat
def k0_cond3 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_3 : BitVec 32 := 0#32
  let v11 : BitVec 1 := Scalar.cmpi .sgt v5 c0_i32_3
  let v20 : BitVec 32 := Scalar.extui v11
  let c0_i32_8 : BitVec 32 := 0#32
  let v21 : BitVec 1 := Scalar.cmpi .ne v20 c0_i32_8
  v21

def k0_dev3 (d0 : Dev nD) : Nat :=
  let c0_i32_114 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_113 : BitVec 32 := 8#32
  let v137 : BitVec 32 := Scalar.muli v2 c8_i32_113
  let v138 : BitVec 32 := Scalar.addi c0_i32_114 v137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_111 : BitVec 32 := 1#32
  let v136 : BitVec 32 := Scalar.subi v5 c1_i32_111
  let c4_i32_115 : BitVec 32 := 4#32
  let v139 : BitVec 32 := Scalar.muli v136 c4_i32_115
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_116 : BitVec 32 := 1#32
  let v141 : BitVec 32 := Scalar.muli v8 c1_i32_116
  let v142 : BitVec 32 := Scalar.addi v140 v141
  v142.toNat
def k0_cond4 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_4 : BitVec 32 := 1#32
  let v12 : BitVec 1 := Scalar.cmpi .slt v5 c1_i32_4
  let v22 : BitVec 32 := Scalar.extui v12
  let c0_i32_9 : BitVec 32 := 0#32
  let v23 : BitVec 1 := Scalar.cmpi .ne v22 c0_i32_9
  v23

def k0_dev4 (d0 : Dev nD) : Nat :=
  let c0_i32_114 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_113 : BitVec 32 := 8#32
  let v137 : BitVec 32 := Scalar.muli v2 c8_i32_113
  let v138 : BitVec 32 := Scalar.addi c0_i32_114 v137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_111 : BitVec 32 := 1#32
  let v136 : BitVec 32 := Scalar.addi v5 c1_i32_111
  let c4_i32_115 : BitVec 32 := 4#32
  let v139 : BitVec 32 := Scalar.muli v136 c4_i32_115
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_116 : BitVec 32 := 1#32
  let v141 : BitVec 32 := Scalar.muli v8 c1_i32_116
  let v142 : BitVec 32 := Scalar.addi v140 v141
  v142.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_5 : BitVec 32 := 0#32
  let v13 : BitVec 1 := Scalar.cmpi .sgt v8 c0_i32_5
  let v24 : BitVec 32 := Scalar.extui v13
  let c0_i32_10 : BitVec 32 := 0#32
  let v25 : BitVec 1 := Scalar.cmpi .ne v24 c0_i32_10
  v25

def k0_dev5 (d0 : Dev nD) : Nat :=
  let c0_i32_114 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_113 : BitVec 32 := 8#32
  let v137 : BitVec 32 := Scalar.muli v2 c8_i32_113
  let v138 : BitVec 32 := Scalar.addi c0_i32_114 v137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_115 : BitVec 32 := 4#32
  let v139 : BitVec 32 := Scalar.muli v5 c4_i32_115
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_111 : BitVec 32 := 1#32
  let v136 : BitVec 32 := Scalar.subi v8 c1_i32_111
  let c1_i32_116 : BitVec 32 := 1#32
  let v141 : BitVec 32 := Scalar.muli v136 c1_i32_116
  let v142 : BitVec 32 := Scalar.addi v140 v141
  v142.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v14 : BitVec 1 := Scalar.cmpi .slt v8 c3_i32
  let v26 : BitVec 32 := Scalar.extui v14
  let c0_i32_11 : BitVec 32 := 0#32
  let v27 : BitVec 1 := Scalar.cmpi .ne v26 c0_i32_11
  v27

def k0_dev6 (d0 : Dev nD) : Nat :=
  let c0_i32_114 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_113 : BitVec 32 := 8#32
  let v137 : BitVec 32 := Scalar.muli v2 c8_i32_113
  let v138 : BitVec 32 := Scalar.addi c0_i32_114 v137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_115 : BitVec 32 := 4#32
  let v139 : BitVec 32 := Scalar.muli v5 c4_i32_115
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_111 : BitVec 32 := 1#32
  let v136 : BitVec 32 := Scalar.addi v8 c1_i32_111
  let c1_i32_116 : BitVec 32 := 1#32
  let v141 : BitVec 32 := Scalar.muli v136 c1_i32_116
  let v142 : BitVec 32 := Scalar.addi v140 v141
  v142.toNat
def k0_cond8 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .sgt v2 c0_i32
  let v41 : BitVec 32 := Scalar.extui v9
  let c0_i32_22 : BitVec 32 := 0#32
  let v42 : BitVec 1 := Scalar.cmpi .ne v41 c0_i32_22
  v42

def k0_dev7 (d0 : Dev nD) : Nat :=
  let c0_i32_115 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_111 : BitVec 32 := 1#32
  let v136 : BitVec 32 := Scalar.subi v2 c1_i32_111
  let c8_i32_114 : BitVec 32 := 8#32
  let v137 : BitVec 32 := Scalar.muli v136 c8_i32_114
  let v138 : BitVec 32 := Scalar.addi c0_i32_115 v137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_116 : BitVec 32 := 4#32
  let v139 : BitVec 32 := Scalar.muli v5 c4_i32_116
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_117 : BitVec 32 := 1#32
  let v141 : BitVec 32 := Scalar.muli v8 c1_i32_117
  let v142 : BitVec 32 := Scalar.addi v140 v141
  v142.toNat
def k0_cond9 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_2 : BitVec 32 := 1#32
  let v10 : BitVec 1 := Scalar.cmpi .slt v2 c1_i32_2
  let v43 : BitVec 32 := Scalar.extui v10
  let c0_i32_23 : BitVec 32 := 0#32
  let v44 : BitVec 1 := Scalar.cmpi .ne v43 c0_i32_23
  v44

def k0_dev8 (d0 : Dev nD) : Nat :=
  let c0_i32_115 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_111 : BitVec 32 := 1#32
  let v136 : BitVec 32 := Scalar.addi v2 c1_i32_111
  let c8_i32_114 : BitVec 32 := 8#32
  let v137 : BitVec 32 := Scalar.muli v136 c8_i32_114
  let v138 : BitVec 32 := Scalar.addi c0_i32_115 v137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_116 : BitVec 32 := 4#32
  let v139 : BitVec 32 := Scalar.muli v5 c4_i32_116
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_117 : BitVec 32 := 1#32
  let v141 : BitVec 32 := Scalar.muli v8 c1_i32_117
  let v142 : BitVec 32 := Scalar.addi v140 v141
  v142.toNat
def k0_cond10 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_3 : BitVec 32 := 0#32
  let v11 : BitVec 1 := Scalar.cmpi .sgt v5 c0_i32_3
  let v45 : BitVec 32 := Scalar.extui v11
  let c0_i32_24 : BitVec 32 := 0#32
  let v46 : BitVec 1 := Scalar.cmpi .ne v45 c0_i32_24
  v46

def k0_dev9 (d0 : Dev nD) : Nat :=
  let c0_i32_115 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_114 : BitVec 32 := 8#32
  let v137 : BitVec 32 := Scalar.muli v2 c8_i32_114
  let v138 : BitVec 32 := Scalar.addi c0_i32_115 v137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_111 : BitVec 32 := 1#32
  let v136 : BitVec 32 := Scalar.subi v5 c1_i32_111
  let c4_i32_116 : BitVec 32 := 4#32
  let v139 : BitVec 32 := Scalar.muli v136 c4_i32_116
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_117 : BitVec 32 := 1#32
  let v141 : BitVec 32 := Scalar.muli v8 c1_i32_117
  let v142 : BitVec 32 := Scalar.addi v140 v141
  v142.toNat
def k0_cond11 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_4 : BitVec 32 := 1#32
  let v12 : BitVec 1 := Scalar.cmpi .slt v5 c1_i32_4
  let v47 : BitVec 32 := Scalar.extui v12
  let c0_i32_25 : BitVec 32 := 0#32
  let v48 : BitVec 1 := Scalar.cmpi .ne v47 c0_i32_25
  v48

def k0_dev10 (d0 : Dev nD) : Nat :=
  let c0_i32_115 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_114 : BitVec 32 := 8#32
  let v137 : BitVec 32 := Scalar.muli v2 c8_i32_114
  let v138 : BitVec 32 := Scalar.addi c0_i32_115 v137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_111 : BitVec 32 := 1#32
  let v136 : BitVec 32 := Scalar.addi v5 c1_i32_111
  let c4_i32_116 : BitVec 32 := 4#32
  let v139 : BitVec 32 := Scalar.muli v136 c4_i32_116
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_117 : BitVec 32 := 1#32
  let v141 : BitVec 32 := Scalar.muli v8 c1_i32_117
  let v142 : BitVec 32 := Scalar.addi v140 v141
  v142.toNat
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_5 : BitVec 32 := 0#32
  let v13 : BitVec 1 := Scalar.cmpi .sgt v8 c0_i32_5
  let v49 : BitVec 32 := Scalar.extui v13
  let c0_i32_26 : BitVec 32 := 0#32
  let v50 : BitVec 1 := Scalar.cmpi .ne v49 c0_i32_26
  v50

def k0_dev11 (d0 : Dev nD) : Nat :=
  let c0_i32_114 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_113 : BitVec 32 := 8#32
  let v137 : BitVec 32 := Scalar.muli v2 c8_i32_113
  let v138 : BitVec 32 := Scalar.addi c0_i32_114 v137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_115 : BitVec 32 := 4#32
  let v139 : BitVec 32 := Scalar.muli v5 c4_i32_115
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_111 : BitVec 32 := 1#32
  let v136 : BitVec 32 := Scalar.subi v8 c1_i32_111
  let c1_i32_116 : BitVec 32 := 1#32
  let v141 : BitVec 32 := Scalar.muli v136 c1_i32_116
  let v142 : BitVec 32 := Scalar.addi v140 v141
  v142.toNat
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v14 : BitVec 1 := Scalar.cmpi .slt v8 c3_i32
  let v51 : BitVec 32 := Scalar.extui v14
  let c0_i32_27 : BitVec 32 := 0#32
  let v52 : BitVec 1 := Scalar.cmpi .ne v51 c0_i32_27
  v52

def k0_dev12 (d0 : Dev nD) : Nat :=
  let c0_i32_114 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_113 : BitVec 32 := 8#32
  let v137 : BitVec 32 := Scalar.muli v2 c8_i32_113
  let v138 : BitVec 32 := Scalar.addi c0_i32_114 v137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_115 : BitVec 32 := 4#32
  let v139 : BitVec 32 := Scalar.muli v5 c4_i32_115
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_111 : BitVec 32 := 1#32
  let v136 : BitVec 32 := Scalar.addi v8 c1_i32_111
  let c1_i32_116 : BitVec 32 := 1#32
  let v141 : BitVec 32 := Scalar.muli v136 c1_i32_116
  let v142 : BitVec 32 := Scalar.addi v140 v141
  v142.toNat
abbrev stage0_0 : Fin 1 → Memref sig .tc .vmem S64x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S128x128x256 : Shape := ⟨3, ![128, 128, 256]⟩
abbrev S126x126x254 : Shape := ⟨3, ![126, 126, 254]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S128x128x256, .f32⟩
  | .hbm, ⟨1, _⟩ => ⟨S126x126x254, .f32⟩
  | .hbm, ⟨2, _⟩ => ⟨S126x126x254, .f32⟩
  | .hbm, ⟨3, _⟩ => ⟨S126x126x254, .f32⟩
  | .hbm, ⟨4, _⟩ => ⟨S126x126x254, .f32⟩
  | .hbm, ⟨5, _⟩ => ⟨S126x126x254, .f32⟩
  | .hbm, ⟨6, _⟩ => ⟨S126x126x254, .f32⟩
  | .hbm, ⟨7, _⟩ => ⟨S126x126x254, .f32⟩
  | .hbm, ⟨8, _⟩ => ⟨S126x126x254, .f32⟩
  | .hbm, ⟨9, _⟩ => ⟨S126x126x254, .f32⟩
  | .hbm, ⟨10, _⟩ => ⟨S126x126x254, .f32⟩
  | .hbm, ⟨11, _⟩ => ⟨S126x126x254, .f32⟩
  | .hbm, ⟨12, _⟩ => ⟨S126x126x254, .f32⟩
  | .hbm, ⟨13, _⟩ => ⟨S_, .f32⟩
  | .hbm, ⟨14, _⟩ => ⟨S126x126x254, .f32⟩
  | .hbm, ⟨15, _⟩ => ⟨S126x126x254, .f32⟩
  | .hbm, ⟨16, _⟩ => ⟨S126x126x254, .f32⟩
  | .hbm, ⟨17, _⟩ => ⟨S_, .i32⟩
  | .hbm, ⟨18, _⟩ => ⟨S_, .f32⟩
  | .hbm, ⟨19, _⟩ => ⟨S128x128x256, .f32⟩
  | _, _ => ⟨S128x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_call0_v0 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Proof.Mesh.lean ====
/-
# The mesh of sixteen devices

Device `c = 8·mx + 4·my + mz` of a mesh 2 × 2 × 4 exchanges faces with the neighbour on each side it has one. A
direction is a number below six: 0 and 1 down and up the first axis, 2 and 3 the second, 4 and 5 the third. The
neighbour is named as if every axis closed to a ring, so that it is a permutation of the devices for each
direction; `has k c` says whether `c` really has a neighbour that way.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Halo

open Cert.KernelIdeal Cert.KernelIdeal.Gen
open Idealize.ShloMosaic Idealize.SL.Sem

/-- A direction: down and up each of the three axes in turn. -/
abbrev Dir : Type := Fin 6

/-- All directions in the order the kernel goes through them. -/
abbrev dirs : List Dir := [0, 1, 2, 3, 4, 5]

/-- The opposite direction. -/
def opp : Dir → Dir
  | 0 => 1 | 1 => 0 | 2 => 3 | 3 => 2 | 4 => 5 | 5 => 4

/-- Whether device `c` has a neighbour in direction `k`. -/
def has (k : Dir) (c : Dev nD) : Bool :=
  match k with
  | 0 => decide (0 < c.val / 8)
  | 1 => decide (c.val / 8 < 1)
  | 2 => decide (0 < c.val / 4 % 2)
  | 3 => decide (c.val / 4 % 2 < 1)
  | 4 => decide (0 < c.val % 4)
  | 5 => decide (c.val % 4 < 3)

/-- The number of the neighbour, each axis closed to a ring. -/
def nbrNat (k : Dir) (n : ℕ) : ℕ :=
  match k with
  | 0 => 8 * ((n / 8 + 1) % 2) + 4 * (n / 4 % 2) + n % 4
  | 1 => 8 * ((n / 8 + 1) % 2) + 4 * (n / 4 % 2) + n % 4
  | 2 => 8 * (n / 8 % 2) + 4 * ((n / 4 + 1) % 2) + n % 4
  | 3 => 8 * (n / 8 % 2) + 4 * ((n / 4 + 1) % 2) + n % 4
  | 4 => 8 * (n / 8 % 2) + 4 * (n / 4 % 2) + (n + 3) % 4
  | 5 => 8 * (n / 8 % 2) + 4 * (n / 4 % 2) + (n + 1) % 4

/-- A neighbour is a device of the mesh. -/
theorem nbrNat_lt (k : Dir) (c : Dev nD) : nbrNat k c.val < nD := by revert k c; decide

set_option backward.proofsInPublic true in
/-- The neighbour of `c` in direction `k`. -/
def nbr (k : Dir) (c : Dev nD) : Dev nD := ⟨nbrNat k c.val, nbrNat_lt k c⟩

/-- The opposite of the opposite direction is the direction. -/
theorem opp_opp (k : Dir) : opp (opp k) = k := by revert k; decide
/-- Going there and back again. -/
theorem nbr_opp (k : Dir) (c : Dev nD) : nbr (opp k) (nbr k c) = c := by revert k c; decide
/-- Going back and there again. -/
theorem nbr_nbr_opp (k : Dir) (c : Dev nD) : nbr k (nbr (opp k) c) = c := by revert k c; decide
/-- A device's neighbour has that device as its neighbour the other way. -/
theorem has_opp (k : Dir) (c : Dev nD) : has (opp k) (nbr k c) = has k c := by revert k c; decide
/-- The neighbour one came from has a neighbour in one's direction just when one has it behind. -/
theorem has_nbr_opp (k : Dir) (c : Dev nD) : has k (nbr (opp k) c) = has (opp k) c := by revert k c; decide

/-- Going to the neighbour in direction `k`, as a permutation of the devices. -/
def shift (k : Dir) : Dev nD ≃ Dev nD := ⟨nbr k, nbr (opp k), nbr_opp k, nbr_nbr_opp k⟩

/-- How many neighbours a device has. -/
def deg (c : Dev nD) : ℕ := (Finset.univ.filter fun k => has k c).card

/-! ## The kernel's own arithmetic -/

/-- The six tests before the signals. -/
def sigCond (k : Dir) (c : Dev nD) : BitVec 1 :=
  match k with
  | 0 => k0_cond1 c
  | 1 => k0_cond2 c
  | 2 => k0_cond3 c
  | 3 => k0_cond4 c
  | 4 => k0_cond5 c
  | 5 => k0_cond6 c
/-- The six tests before the transfers. -/
def sendCond (k : Dir) (c : Dev nD) : BitVec 1 :=
  match k with
  | 0 => k0_cond8 c
  | 1 => k0_cond9 c
  | 2 => k0_cond10 c
  | 3 => k0_cond11 c
  | 4 => k0_cond12 c
  | 5 => k0_cond13 c

/-- The device's coordinate on each axis as the kernel computes it. -/
def wx (c : Dev nD) : BitVec 32 := Scalar.remsi (Scalar.divsi (Dev.word c) 8#32) 2#32
def wy (c : Dev nD) : BitVec 32 := Scalar.remsi (Scalar.divsi (Dev.word c) 4#32) 2#32
def wz (c : Dev nD) : BitVec 32 := Scalar.remsi (Scalar.divsi (Dev.word c) 1#32) 4#32

/-- The test "there is a neighbour in direction `j`", kept from the start of the kernel. -/
def flag (j : Dir) (c : Dev nD) : BitVec 1 :=
  match j with
  | 0 => Scalar.cmpi .sgt (wx c) 0#32
  | 1 => Scalar.cmpi .slt (wx c) 1#32
  | 2 => Scalar.cmpi .sgt (wy c) 0#32
  | 3 => Scalar.cmpi .slt (wy c) 1#32
  | 4 => Scalar.cmpi .sgt (wz c) 0#32
  | 5 => Scalar.cmpi .slt (wz c) 3#32

/-- The same test as it is read again later. -/
def waitCond (j : Dir) (c : Dev nD) : BitVec 1 := Scalar.cmpi .ne (Scalar.extui (flag j c) : BitVec 32) 0#32

/-- The test "this side is on the boundary of the whole array". -/
def edgeFlag (j : Dir) (c : Dev nD) : BitVec 1 :=
  match j with
  | 0 => Scalar.cmpi .eq (wx c) 0#32
  | 1 => Scalar.cmpi .eq (wx c) 1#32
  | 2 => Scalar.cmpi .eq (wy c) 0#32
  | 3 => Scalar.cmpi .eq (wy c) 1#32
  | 4 => Scalar.cmpi .eq (wz c) 0#32
  | 5 => Scalar.cmpi .eq (wz c) 3#32
def edgeCond (j : Dir) (c : Dev nD) : BitVec 1 := Scalar.cmpi .ne (Scalar.extui (edgeFlag j c) : BitVec 32) 0#32

/-- The test before the fourth unit is awaited: a neighbour on both sides of the third axis. -/
def extraCond (c : Dev nD) : BitVec 1 :=
  Scalar.cmpi .ne (Scalar.extui (Scalar.andi (flag 4 c) (flag 5 c)) : BitVec 32) 0#32

/-- The test before a signal is whether there is a neighbour. -/
theorem sigCond_iff (k : Dir) (c : Dev nD) : sigCond k c = 1#1 ↔ has k c = true := by revert k c; decide +kernel
/-- The test before a copy is whether there is a neighbour. -/
theorem sendCond_iff (k : Dir) (c : Dev nD) : sendCond k c = 1#1 ↔ has k c = true := by revert k c; decide +kernel
/-- The test before a wait is whether there is a neighbour. -/
theorem waitCond_iff (k : Dir) (c : Dev nD) : waitCond k c = 1#1 ↔ has k c = true := by revert k c; decide +kernel
/-- The test before the zeros is whether there is no neighbour. -/
theorem edgeCond_iff (k : Dir) (c : Dev nD) : edgeCond k c = 1#1 ↔ has k c = false := by revert k c; decide +kernel
/-- A device has three neighbours, or four when the extra unit is awaited. -/
theorem deg_extra (c : Dev nD) : deg c = if extraCond c = 1#1 then 4 else 3 := by revert c; decide +kernel

end Cert.Halo

end
-- ==== Proof.Faces.lean ====
/-
# The faces exchanged

For each direction the buffer a device sends from, the buffer of the neighbour its face lands in, the semaphores
that count the two ends of the transfer, and the contents: what a device's block holds, the two faces of the third
axis copied out of it before they are sent, and the face of the result that a landed face is added to.
-/
module

public import proofs.«01_k».proof.Proof.Mesh

@[expose] public section

noncomputable section

namespace Cert.Halo

open Cert.KernelIdeal Cert.KernelIdeal.Gen
open Idealize.ShloMosaic Idealize.ShloMosaic.TcCoe Idealize.SL.Sem

variable {F : FTy → Type} [FloatOps F]

/-- The kernel's own buffers: its block of the input, of the result, and the two copied faces. -/
abbrev uM : Memref sig .tc .vmem S64x64x64 .f32 := Memref.whole cc0_stg0_0
abbrev oM : Memref sig .tc .vmem S64x64x64 .f32 := Memref.whole cc0_stg1_0
abbrev loM : Memref sig .tc .vmem S64x64 .f32 := Memref.whole cc0_scratch0
abbrev hiM : Memref sig .tc .vmem S64x64 .f32 := Memref.whole cc0_scratch1

/-! ## The rectangles -/

abbrev rW : Rect S64x64x64 := Rect.unit (s := S64x64x64) ![0, 0, 0] S64x64x64.size inb_S64x64x64_S64x64x64_0_0_0
abbrev rX0 : Rect S64x64x64 := Rect.unit (s := S64x64x64) ![0, 0, 0] S1x64x64.size inb_S64x64x64_S1x64x64_0_0_0
abbrev rX1 : Rect S64x64x64 := Rect.unit (s := S64x64x64) ![63, 0, 0] S1x64x64.size inb_S64x64x64_S1x64x64_63_0_0
abbrev rY0 : Rect S64x64x64 := Rect.unit (s := S64x64x64) ![0, 0, 0] S64x1x64.size inb_S64x64x64_S64x1x64_0_0_0
abbrev rY1 : Rect S64x64x64 := Rect.unit (s := S64x64x64) ![0, 63, 0] S64x1x64.size inb_S64x64x64_S64x1x64_0_63_0
abbrev rZ0 : Rect S64x64x64 := Rect.unit (s := S64x64x64) ![0, 0, 0] S64x64x1.size inb_S64x64x64_S64x64x1_0_0_0
abbrev rZ1 : Rect S64x64x64 := Rect.unit (s := S64x64x64) ![0, 0, 63] S64x64x1.size inb_S64x64x64_S64x64x1_0_0_63
abbrev rP : Rect S64x64 := Rect.unit (s := S64x64) ![0, 0] S64x64.size inb_S64x64_S64x64_0_0

/-- The shape of the face sent in direction `k`. -/
abbrev fsh : Dir → Shape
  | 0 => S1x64x64 | 1 => S1x64x64 | 2 => S64x1x64 | 3 => S64x1x64 | 4 => S64x64 | 5 => S64x64

/-- Where the face sent in direction `k` is read. -/
def src : (k : Dir) → Memref sig .tc .vmem (fsh k) .f32
  | 0 => uM.slice rX0 (fun _ => rfl)
  | 1 => uM.slice rX1 (fun _ => rfl)
  | 2 => uM.slice rY0 (fun _ => rfl)
  | 3 => uM.slice rY1 (fun _ => rfl)
  | 4 => loM
  | 5 => hiM

/-- Where on the neighbour it lands. -/
def land : (k : Dir) → Memref sig .tc .vmem (fsh k) .f32
  | 0 => (Memref.whole cc0_scratch5 : Memref sig .tc .vmem S64x64x64 .f32).slice rX0 (fun _ => rfl)
  | 1 => (Memref.whole cc0_scratch4 : Memref sig .tc .vmem S64x64x64 .f32).slice rX1 (fun _ => rfl)
  | 2 => (Memref.whole cc0_scratch7 : Memref sig .tc .vmem S64x64x64 .f32).slice rY0 (fun _ => rfl)
  | 3 => (Memref.whole cc0_scratch6 : Memref sig .tc .vmem S64x64x64 .f32).slice rY1 (fun _ => rfl)
  | 4 => Memref.whole cc0_scratch3
  | 5 => Memref.whole cc0_scratch2

/-- The semaphore counting the faces sent in direction `k`, -/
def sendS : Dir → DmaSem sig
  | 0 => ((cc0_scratch8.slice (Rect.unit (s := S6) ![0] S1.size inb_S6_S1_0)).squeeze S_ squeezes_S1_S_).sem
  | 1 => ((cc0_scratch8.slice (Rect.unit (s := S6) ![1] S1.size inb_S6_S1_1)).squeeze S_ squeezes_S1_S_).sem
  | 2 => ((cc0_scratch8.slice (Rect.unit (s := S6) ![2] S1.size inb_S6_S1_2)).squeeze S_ squeezes_S1_S_).sem
  | 3 => ((cc0_scratch8.slice (Rect.unit (s := S6) ![3] S1.size inb_S6_S1_3)).squeeze S_ squeezes_S1_S_).sem
  | 4 => ((cc0_scratch8.slice (Rect.unit (s := S6) ![4] S1.size inb_S6_S1_4)).squeeze S_ squeezes_S1_S_).sem
  | 5 => ((cc0_scratch8.slice (Rect.unit (s := S6) ![5] S1.size inb_S6_S1_5)).squeeze S_ squeezes_S1_S_).sem

/-- and the receiver's, counting the faces that were sent in direction `k`. -/
def arrS : Dir → DmaSem sig
  | 1 => ((cc0_scratch9.slice (Rect.unit (s := S6) ![0] S1.size inb_S6_S1_0)).squeeze S_ squeezes_S1_S_).sem
  | 0 => ((cc0_scratch9.slice (Rect.unit (s := S6) ![1] S1.size inb_S6_S1_1)).squeeze S_ squeezes_S1_S_).sem
  | 3 => ((cc0_scratch9.slice (Rect.unit (s := S6) ![2] S1.size inb_S6_S1_2)).squeeze S_ squeezes_S1_S_).sem
  | 2 => ((cc0_scratch9.slice (Rect.unit (s := S6) ![3] S1.size inb_S6_S1_3)).squeeze S_ squeezes_S1_S_).sem
  | 5 => ((cc0_scratch9.slice (Rect.unit (s := S6) ![4] S1.size inb_S6_S1_4)).squeeze S_ squeezes_S1_S_).sem
  | 4 => ((cc0_scratch9.slice (Rect.unit (s := S6) ![5] S1.size inb_S6_S1_5)).squeeze S_ squeezes_S1_S_).sem

/-- The runtime's barrier semaphore. -/
abbrev barS : Sem sig := (SemArray.scalar (sig.barrier 0 rfl) : Sems sig S_).sem

/-- Each direction has its own sending semaphore. -/
theorem sendS_inj : Function.Injective sendS := by intro a b; revert a b; decide
/-- Each direction has its own receiving semaphore. -/
theorem arrS_inj : Function.Injective arrS := by intro a b; revert a b; decide
/-- A sending semaphore is not a receiving one. -/
theorem sendS_ne_arrS (a b : Dir) : sendS a ≠ arrS b := by revert a b; decide

/-- The units a transfer in direction `k` counts. -/
def cnt (k : Dir) : ℕ := (land k).view.dmaCredit
/-- A copy pays its semaphores something. -/
theorem cnt_pos (k : Dir) : 0 < cnt k := View.dmaCredit_pos _ (by revert k; decide)

/-- The face that is sent consists of whole words. -/
theorem src_exact (k : Dir) : (src k).view.WordExact := by
  match k with
  | 0 | 1 | 2 | 3 => exact View.wordExact_bits rfl
  | 4 | 5 => exact (Memref.isWhole_whole _).wordExact
/-- The face that lands consists of whole words. -/
theorem land_exact (k : Dir) : (land k).view.WordExact := by
  match k with
  | 0 | 1 | 2 | 3 => exact View.wordExact_bits rfl
  | 4 | 5 => exact (Memref.isWhole_whole _).wordExact
/-- The face that lands is not in another core's scratch. -/
theorem land_scratch (k : Dir) : (land k).view.ref.isScScratch = false := by revert k; decide

end Cert.Halo

end
-- ==== Proof.Steps.lean ====
/-
# The kernel as a sequence of uniform steps

Each conditional statement of the kernel is one of five steps taken in a direction: the signal, the transfer, the
wait for a landed face and its addition to the result, the zeroing of a boundary face, the wait for a face sent.
Each part of the kernel is the composition of such steps with the unconditional loads and stores between them.
-/
module

public import proofs.«01_k».proof.Proof.Faces

@[expose] public section

noncomputable section

namespace Cert.Halo

open Cert.KernelIdeal Cert.KernelIdeal.Gen
open Idealize.ShloMosaic Idealize.ShloMosaic.TcCoe Idealize.SL.Sem

variable {F : FTy → Type} [FloatOps F]

/-- Programs of a device's core. -/
abbrev P (F : FTy → Type) [FloatOps F] (α : Type) : Type _ := Prog (TpuEff nD τ sig (Elt F) Λ₀ .tc) α

variable {α : Type}

/-! ## The devices addressed -/

def sigDev (k : Dir) (c : Dev nD) : ℕ :=
  match k with
  | 0 => k0_dev1 c
  | 1 => k0_dev2 c
  | 2 => k0_dev3 c
  | 3 => k0_dev4 c
  | 4 => k0_dev5 c
  | 5 => k0_dev6 c
def sendDev (k : Dir) (c : Dev nD) : ℕ :=
  match k with
  | 0 => k0_dev7 c
  | 1 => k0_dev8 c
  | 2 => k0_dev9 c
  | 3 => k0_dev10 c
  | 4 => k0_dev11 c
  | 5 => k0_dev12 c

/-- A signal in a direction is addressed to the neighbour there, -/
theorem sigDev_eq (k : Dir) (c : Dev nD) : has k c = true → sigDev k c = nbrNat k c.val := by revert k c; decide +kernel
/-- and so is a transfer. -/
theorem sendDev_eq (k : Dir) (c : Dev nD) : has k c = true → sendDev k c = nbrNat k c.val := by revert k c; decide +kernel

/-- A signal is addressed to a device of the mesh. -/
theorem sigDev_lt (k : Dir) (c : Dev nD) (h : sigCond k c = 1#1) : sigDev k c < nD :=
  (sigDev_eq k c ((sigCond_iff k c).mp h)) ▸ nbrNat_lt k c
/-- A copy is addressed to a device of the mesh. -/
theorem sendDev_lt (k : Dir) (c : Dev nD) (h : sendCond k c = 1#1) : sendDev k c < nD :=
  (sendDev_eq k c ((sendCond_iff k c).mp h)) ▸ nbrNat_lt k c

/-! ## The steps -/

/-- Signal the neighbour in direction `k`, if there is one. -/
def sigStep (k : Dir) (c : Dev nD) (rest : P F α) : P F α :=
  if h : sigCond k c = 1#1 then
    .op (.semSignal ((⟨sigDev k c, sigDev_lt k c h⟩ : Dev nD), .tc) barS (1#32 : BitVec 32).toInt) fun _ => rest
  else rest

/-- Send the face in direction `k`, if there is a neighbour. -/
def sendStep (k : Dir) (c : Dev nD) (rest : P F α) : P F α :=
  if h : sendCond k c = 1#1 then
    .op (.enqueueDma (src k) (.remote (Dev.tc (⟨sendDev k c, sendDev_lt k c h⟩ : Dev nD)) (land k) (.dma (sendS k)) (land_scratch k))
      (.dma (arrS k)) (src_exact k) (land_exact k) ⟨⟨rfl, Or.inl rfl⟩, trivial⟩) fun _ => rest
  else rest

/-- Wait until the face sent in direction `k` has left, if there is a neighbour. -/
def sentStep (k : Dir) (c : Dev nD) (rest : P F α) : P F α :=
  if _h : waitCond k c = 1#1 then
    .op (.waitDma2 (sendS k) (src k) (src k) (src_exact k) (src_exact k)) fun _ => rest
  else rest

/-- The face of the result on side `j`. -/
abbrev face : Dir → Rect S64x64x64
  | 0 => rX0 | 1 => rX1 | 2 => rY0 | 3 => rY1 | 4 => rZ0 | 5 => rZ1

/-- A face of the output can be loaded. -/
theorem face_loads (j : Dir) : oM.view.LoadsAt (face j).toLoadRect := by
  match j with
  | 0 | 1 => exact View.loadsAt_vmem h_S1x64x64
  | 2 | 3 => exact View.loadsAt_vmem h_S64x1x64
  | 4 | 5 => exact View.loadsAt_vmem h_S64x64x1
/-- A face of the output can be stored. -/
theorem face_stores (j : Dir) : (oM.access (face j)).Stores Finset.univ := by
  match j with
  | 0 | 1 => exact View.stores_vmem_bits_univ h_S1x64x64 rfl
  | 2 | 3 => exact View.stores_vmem_bits_univ h_S64x1x64 rfl
  | 4 | 5 => exact View.stores_vmem_bits_univ h_S64x64x1 rfl

/-- The shape of the buffer a face of side `j` lands in, the buffer, and the part of it that is read back. -/
abbrev bsh : Dir → Shape
  | 0 => S64x64x64 | 1 => S64x64x64 | 2 => S64x64x64 | 3 => S64x64x64 | 4 => S64x64 | 5 => S64x64
def buf : (j : Dir) → Memref sig .tc .vmem (bsh j) .f32
  | 0 => Memref.whole cc0_scratch4
  | 1 => Memref.whole cc0_scratch5
  | 2 => Memref.whole cc0_scratch6
  | 3 => Memref.whole cc0_scratch7
  | 4 => Memref.whole cc0_scratch2
  | 5 => Memref.whole cc0_scratch3
abbrev bface : (j : Dir) → Rect (bsh j)
  | 0 => rX1 | 1 => rX0 | 2 => rY1 | 3 => rY0 | 4 => rP | 5 => rP
/-- The face that landed can be loaded. -/
theorem bface_loads (j : Dir) : (buf j).view.LoadsAt (bface j).toLoadRect := by
  match j with
  | 0 | 1 => exact View.loadsAt_vmem h_S1x64x64
  | 2 | 3 => exact View.loadsAt_vmem h_S64x1x64
  | 4 | 5 => exact View.loadsAt_vmem h_S64x64

/-- The sum the kernel stores on side `j`: the result's face and the landed one. -/
def addFace : (j : Dir) → ((face j).shape.Idx → Elt F .f32) → ((bface j).shape.Idx → Elt F .f32) → ((face j).shape.Idx → Elt F .f32)
  | 0 => k0_pay11 | 1 => k0_pay12 | 2 => k0_pay13 | 3 => k0_pay14 | 4 => k0_pay15 | 5 => k0_pay16
/-- The zeros it stores on a boundary side. -/
def zeroFace : (j : Dir) → ((face j).shape.Idx → Elt F .f32)
  | 0 => k0_pay17 (F := F) | 1 => k0_pay18 (F := F) | 2 => k0_pay19 (F := F) | 3 => k0_pay20 (F := F) | 4 => k0_pay21 (F := F) | 5 => k0_pay22 (F := F)

/-- Wait for the face from side `j` and add it to the result's face there, if there is a neighbour. -/
def recvStep (j : Dir) (c : Dev nD) (rest : P F α) : P F α :=
  if _h : waitCond j c = 1#1 then
    .op (.waitDma2 (arrS (opp j)) (land (opp j)) (land (opp j)) (land_exact _) (land_exact _)) fun _ =>
    .op (.load oM (face j).toLoadRect (face_loads j)) fun v =>
    .op (.load (buf j) (bface j).toLoadRect (bface_loads j)) fun w =>
    .op (.load oM (face j).toLoadRect (face_loads j)) fun _ =>
    .op (.store oM (face j) (addFace j v w) Finset.univ (face_stores j) (.inl rfl)) fun _ => rest
  else rest

/-- Set the result's face on side `j` to zero, if it is on the boundary. -/
def zeroStep (j : Dir) (c : Dev nD) (rest : P F α) : P F α :=
  if _h : edgeCond j c = 1#1 then
    .op (.load oM (face j).toLoadRect (face_loads j)) fun _ =>
    .op (.store oM (face j) (zeroFace j) Finset.univ (face_stores j) (.inl rfl)) fun _ => rest
  else rest

/-- Wait until every neighbour has signalled: three of them, and a fourth if there is one. -/
def barStep (c : Dev nD) (rest : P F α) : P F α :=
  .op (.semWait barS (3#32 : BitVec 32).toInt) fun _ =>
  if _h : extraCond c = 1#1 then .op (.semWait barS (1#32 : BitVec 32).toInt) fun _ => rest else rest

/-- Load from the input block, -/
def loadU (r : Rect S64x64x64) (hl : uM.view.LoadsAt r.toLoadRect) (k : (r.shape.Idx → Elt F .f32) → P F α) : P F α :=
  .op (.load uM r.toLoadRect hl) k

/-- Add a window `r'` of the input block to a window `r` of the result, the kernel's payload being `pay`. -/
def addStep (r r' : Rect S64x64x64) (hl : oM.view.LoadsAt r.toLoadRect) (hl' : uM.view.LoadsAt r'.toLoadRect)
    (hs : (oM.access r).Stores Finset.univ)
    (pay : (r.shape.Idx → Elt F .f32) → (r'.shape.Idx → Elt F .f32) → (r.shape.Idx → Elt F .f32)) (rest : P F α) : P F α :=
  .op (.load oM r.toLoadRect hl) fun v =>
  .op (.load uM r'.toLoadRect hl') fun w =>
  .op (.load oM r.toLoadRect hl) fun _ =>
  .op (.store oM r (pay v w) Finset.univ hs (.inl rfl)) fun _ => rest

end Cert.Halo

end
-- ==== Proof.Parts.lean ====
/-
# The kernel's five parts, written with the steps
-/
module

public import proofs.«01_k».proof.Proof.Steps

@[expose] public section

noncomputable section

namespace Cert.Halo

open Cert.KernelIdeal Cert.KernelIdeal.Gen
open Idealize.ShloMosaic Idealize.ShloMosaic.TcCoe Idealize.SL.Sem

variable {F : FTy → Type} [FloatOps F]

/-- What the first part computes for the later ones: the device, its coordinates, the six tests, the barrier
    semaphore and the low face of the third axis. -/
abbrev Head (F : FTy → Type) [FloatOps F] : Type :=
  Σ' (_ : Dev nD) (_ : BitVec 32) (_ : BitVec 32) (_ : BitVec 32) (_ : BitVec 1) (_ : BitVec 1) (_ : BitVec 1) (_ : BitVec 1)
    (_ : BitVec 1) (_ : BitVec 1) (_ : Sems sig S_), FVec F S64x64 .f32

/-- Its value on device `c` from the loaded face. -/
abbrev head (c : Dev nD) (v : FVec F S64x64 .f32) : Head F :=
  ⟨c, wx c, wy c, wz c, flag 0 c, flag 1 c, flag 2 c, flag 3 c, flag 4 c, flag 5 c, SemArray.scalar (sig.barrier 0 (by decide)), v⟩

/-- The first part: the six signals, then the low face of the third axis is read. -/
def part1 : P F (Head F) :=
  .op .deviceId fun c =>
  sigStep 0 c <| sigStep 1 c <| sigStep 2 c <| sigStep 3 c <| sigStep 4 c <| sigStep 5 c <|
  .op (.load uM rZ0.toLoadRect (View.loadsAt_vmem h_S64x64x1)) fun v =>
  .ret (head c (k0_pay1 v))

/-- The second part: the two faces of the third axis are copied out, the barrier awaited, the six faces sent, and
    the result started from the block itself. -/
def part2 (c : Dev nD) (v : FVec F S64x64 .f32) : P F PUnit :=
  .op (.load loM rP.toLoadRect (View.loadsAt_vmem h_S64x64)) fun _ =>
  .op (.store loM rP (k0_pay2 v) Finset.univ (View.stores_vmem_bits_univ h_S64x64 rfl) (.inl rfl)) fun _ =>
  .op (.load uM rZ1.toLoadRect (View.loadsAt_vmem h_S64x64x1)) fun w =>
  .op (.load hiM rP.toLoadRect (View.loadsAt_vmem h_S64x64)) fun _ =>
  .op (.store hiM rP (k0_pay3 w) Finset.univ (View.stores_vmem_bits_univ h_S64x64 rfl) (.inl rfl)) fun _ =>
  barStep c <|
  sendStep 0 c <| sendStep 1 c <| sendStep 2 c <| sendStep 3 c <| sendStep 4 c <| sendStep 5 c <|
  .op (.load uM rW.toLoadRect (View.loadsAt_vmem h_S64x64x64)) fun x =>
  .op (.load oM rW.toLoadRect (View.loadsAt_vmem h_S64x64x64)) fun _ =>
  .op (.store oM rW (k0_pay4 x) Finset.univ (View.stores_vmem_bits_univ h_S64x64x64 rfl) (.inl rfl)) fun _ =>
  .ret ⟨⟩

/-- The windows left when a first or last face is left out. -/
abbrev rXhi : Rect S64x64x64 := Rect.unit (s := S64x64x64) ![1, 0, 0] S63x64x64.size inb_S64x64x64_S63x64x64_1_0_0
abbrev rXlo : Rect S64x64x64 := Rect.unit (s := S64x64x64) ![0, 0, 0] S63x64x64.size inb_S64x64x64_S63x64x64_0_0_0
abbrev rYhi : Rect S64x64x64 := Rect.unit (s := S64x64x64) ![0, 1, 0] S64x63x64.size inb_S64x64x64_S64x63x64_0_1_0
abbrev rYlo : Rect S64x64x64 := Rect.unit (s := S64x64x64) ![0, 0, 0] S64x63x64.size inb_S64x64x64_S64x63x64_0_0_0
abbrev rZhi : Rect S64x64x64 := Rect.unit (s := S64x64x64) ![0, 0, 1] S64x64x63.size inb_S64x64x64_S64x64x63_0_0_1
abbrev rZlo : Rect S64x64x64 := Rect.unit (s := S64x64x64) ![0, 0, 0] S64x64x63.size inb_S64x64x64_S64x64x63_0_0_0

/-- The third part: the neighbours inside the block are added along the first axis and half of the second. -/
def part3 : P F (FVec F S64x63x64 .f32) :=
  addStep rXhi rXlo (View.loadsAt_vmem h_S63x64x64) (View.loadsAt_vmem h_S63x64x64) (View.stores_vmem_bits_univ h_S63x64x64 rfl) k0_pay5 <|
  addStep rXlo rXhi (View.loadsAt_vmem h_S63x64x64) (View.loadsAt_vmem h_S63x64x64) (View.stores_vmem_bits_univ h_S63x64x64 rfl) k0_pay6 <|
  addStep rYhi rYlo (View.loadsAt_vmem h_S64x63x64) (View.loadsAt_vmem h_S64x63x64) (View.stores_vmem_bits_univ h_S64x63x64 rfl) k0_pay7 <|
  .op (.load oM rYlo.toLoadRect (View.loadsAt_vmem h_S64x63x64)) fun v =>
  .op (.load uM rYhi.toLoadRect (View.loadsAt_vmem h_S64x63x64)) fun w =>
  .ret (k0_pay8 v w)

/-- The fourth part: the rest of the second axis and the third, then the six landed faces. -/
def part4 (c : Dev nD) (x : FVec F S64x63x64 .f32) : P F PUnit :=
  .op (.load oM rYlo.toLoadRect (View.loadsAt_vmem h_S64x63x64)) fun _ =>
  .op (.store oM rYlo x Finset.univ (View.stores_vmem_bits_univ h_S64x63x64 rfl) (.inl rfl)) fun _ =>
  addStep rZhi rZlo (View.loadsAt_vmem h_S64x64x63) (View.loadsAt_vmem h_S64x64x63) (View.stores_vmem_bits_univ h_S64x64x63 rfl) k0_pay9 <|
  addStep rZlo rZhi (View.loadsAt_vmem h_S64x64x63) (View.loadsAt_vmem h_S64x64x63) (View.stores_vmem_bits_univ h_S64x64x63 rfl) k0_pay10 <|
  recvStep 0 c <| recvStep 1 c <| recvStep 2 c <| recvStep 3 c <| recvStep 4 c <| recvStep 5 c <| .ret ⟨⟩

/-- The fifth part: the boundary faces are set to zero and the six sends awaited. -/
def part5 (c : Dev nD) : P F PUnit :=
  zeroStep 0 c <| zeroStep 1 c <| zeroStep 2 c <| zeroStep 3 c <| zeroStep 4 c <| zeroStep 5 c <|
  sentStep 0 c <| sentStep 1 c <| sentStep 2 c <| sentStep 3 c <| sentStep 4 c <| sentStep 5 c <| .ret ⟨⟩

section
set_option maxRecDepth 65536

/-- The printed kernel, its five parts being these. -/
theorem part1_eq : k0_part1 (F := F) (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _) cc0_scratch8 cc0_scratch9 = part1 := by
  rw [k0_part1_eq_skeleton]; rfl
/-- The second printed part of the body, by direction. -/
theorem part2_eq (c : Dev nD) (v : FVec F S64x64 .f32) : k0_part2 (F := F) (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _) cc0_scratch8 cc0_scratch9
    c (wx c) (wy c) (wz c) (flag 0 c) (flag 1 c) (flag 2 c) (flag 3 c) (flag 4 c) (flag 5 c) (SemArray.scalar (sig.barrier 0 (by decide))) v = part2 c v := by
  rw [k0_part2_eq_skeleton]; rfl
/-- The third printed part of the body, by direction. -/
theorem part3_eq : k0_part3 (F := F) (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _) cc0_scratch8 cc0_scratch9 = part3 := by
  rw [k0_part3_eq_skeleton]; rfl
/-- The fourth printed part of the body, by direction. -/
theorem part4_eq (c : Dev nD) (x : FVec F S64x63x64 .f32) : k0_part4 (F := F) (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _) cc0_scratch8 cc0_scratch9
    (wx c) (wy c) (wz c) (flag 0 c) (flag 1 c) (flag 2 c) (flag 3 c) (flag 4 c) (flag 5 c) x = part4 c x := by
  rw [k0_part4_eq_skeleton]; rfl
/-- The fifth printed part of the body, by direction. -/
theorem part5_eq (c : Dev nD) : k0_part5 (F := F) (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _) cc0_scratch8 cc0_scratch9
    (wx c) (wy c) (wz c) (flag 0 c) (flag 1 c) (flag 2 c) (flag 3 c) (flag 4 c) (flag 5 c) = part5 c := by
  rw [k0_part5_eq_skeleton]; rfl
end

end Cert.Halo

end
-- ==== Proof.Schedule.lean ====
/-
# The protocol between the devices

Every device signals each neighbour's barrier semaphore, handing over with the signal the buffer that neighbour's
face will land in; it awaits one unit from each of its own neighbours, and then sends them its faces. A transfer
counts once at the sender, which gets its source back, and once at the receiver, which gets the landed face. All of
this is one round: a cell has, for each direction it is used in, one duty named by that direction.
-/
module

public import proofs.«01_k».proof.Proof.Parts

@[expose] public section

noncomputable section

namespace Cert.Halo

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Ghost state: the pipeline library's rounds and the exchange's, whose duties are named by directions -/

abbrev UX : Type := URounds (GSem nD τ sig) Dir
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The cells -/

abbrev barCell (c : Dev nD) : GSem nD τ sig := ((c : Thread nD τ), .reg barS)
abbrev sendCell (c : Dev nD) (k : Dir) : GSem nD τ sig := ((c : Thread nD τ), .dma (sendS k))
abbrev arrCell (c : Dev nD) (k : Dir) : GSem nD τ sig := ((c : Thread nD τ), .dma (arrS k))

/-! ## The contents -/

/-- Device `c`'s block of the input, as its core's copy holds it. -/
def ublk (c : Dev nD) : (cc0_stg0_0 : Ref sig .tc).ty.Contents (Elt F) :=
  (win0_0.blk (0 : Fin 1)).view.read (Elt F) ((s₀ m ρ).mem ((c : Thread nD τ).loc main_arg0))

/-- What is read at direction `k`'s source on device `c`: its block, or the copied face of the third axis. -/
def srcC (k : Dir) (c : Dev nD) : Buf (Elt F) ((src k).view.loc (c : Thread nD τ)) :=
  match k with
  | 0 => ublk m ρ c
  | 1 => ublk m ρ c
  | 2 => ublk m ρ c
  | 3 => ublk m ρ c
  | 4 => k0_pay2 (k0_pay1 (uM.view.readAt (Elt F) rZ0.toLoadRect (ublk m ρ c)))
  | 5 => k0_pay3 (uM.view.readAt (Elt F) rZ1.toLoadRect (ublk m ρ c))

/-- The share of the source a transfer takes: the four that read the block divide a half of it among them, the
    other half staying for the kernel's own loads; the copied faces are given whole. -/
def srcQ : Dir → PosShare TreeShare
  | 0 => fullShare.right.left.left
  | 1 => fullShare.right.left.right
  | 2 => fullShare.right.right.left
  | 3 => fullShare.right.right.right
  | 4 => fullShare
  | 5 => fullShare

/-- The source of direction `k` on device `c`. -/
def srcPts (k : Dir) (c : Dev nD) : sProp 𝕄 :=
  (src k).view.loc (c : Thread nD τ) ↦[(src k).view.set]{srcQ k} srcC m ρ k c

/-- The landing place of direction `k` on device `c`. -/
def landPts (k : Dir) (c : Dev nD) (f : Buf (Elt F) ((land k).view.loc (c : Thread nD τ))) : sProp 𝕄 :=
  (land k).view.loc (c : Thread nD τ) ↦[(land k).view.set]{fullShare} f

/-- Its contents once device `b`'s face has landed over `f`. -/
def landedC (k : Dir) (b c : Dev nD) (f : Buf (Elt F) ((land k).view.loc (c : Thread nD τ))) : Buf (Elt F) ((land k).view.loc (c : Thread nD τ)) :=
  (land k).view.write (Elt F) f ((src k).view.read (Elt F) (srcC m ρ k b)) Finset.univ

/-! ## The schedule -/

/-- What the neighbour in direction `k` hands device `b` with its signal: the place `b`'s face will land in, and
    that the count of landings there has begun. -/
def barPay (k : Dir) (b : Dev nD) : sProp 𝕄 := iprop((∃ f, landPts k (nbr k b) f) ∗ reached ER (arrCell (nbr k b) k) 0)
/-- What a landing hands its receiver: the place, holding the face the neighbour sent. -/
def arrPay (k : Dir) (c : Dev nD) : sProp 𝕄 := iprop(∃ f, landPts k c (landedC m ρ k (nbr (opp k) c) c f))

instance srcPts_storable (k : Dir) (c : Dev nD) : BI.Storable (upEmb : UEmb _ 𝕄) (srcPts (F := F) m ρ k c) := by unfold srcPts; infer_instance
omit [FloatOps F] in
instance landPts_storable (k : Dir) (c : Dev nD) (f) : BI.Storable (upEmb : UEmb _ 𝕄) (landPts (F := F) k c f) := by unfold landPts; infer_instance

/-- Which of the duties are a cell's: a barrier cell's and a send cell's for the directions with a neighbour, an
    arrival cell's if the sender's side has one. -/
def Active (g : GSem nD τ sig) (k : Dir) : Prop :=
  (g.2 = .reg barS ∧ has k g.1.1 = true) ∨ (g.2 = .dma (sendS k) ∧ has k g.1.1 = true)
    ∨ (g.2 = .dma (arrS k) ∧ has (opp k) g.1.1 = true)

instance (g : GSem nD τ sig) : DecidablePred (Active g) := fun k => by unfold Active; infer_instance

/-- The exchange: one round, a signal a unit, a transfer its units at either end. -/
def xchg : Rounds.Schedule (GSem nD τ sig) Dir 𝕄 where
  duties g r := if r = 0 ∧ g.1.2 = .tc then Finset.univ.filter (Active g) else ∅
  unitless _ := False
  amount g _ k := if g.2 = .reg barS then 1 else cnt k
  payload g _ k :=
    if g.2 = .reg barS then barPay k g.1.1
    else if g.2 = .dma (sendS k) then srcPts m ρ k g.1.1
    else if g.2 = .dma (arrS k) then arrPay m ρ k g.1.1
    else iprop(emp)
  amount_pos g _ k _ := by
    by_cases h : g.2 = .reg barS
    · rw [if_pos h]; exact Nat.one_pos
    · rw [if_neg h]; exact cnt_pos k

instance xchg_payload_storable (g : GSem nD τ sig) (r : ℕ) (k : Dir) :
    BI.Storable (upEmb : UEmb _ 𝕄) ((xchg (F := F) m ρ).payload g r k) := by
  show BI.Storable upEmb (if g.2 = .reg barS then barPay k g.1.1 else if g.2 = .dma (sendS k) then srcPts m ρ k g.1.1
    else if g.2 = .dma (arrS k) then arrPay m ρ k g.1.1 else iprop(emp))
  unfold barPay arrPay
  (repeat' split) <;> infer_instance

section Facts
variable (c : Dev nD) (k : Dir)

/-- A sending semaphore is not the barrier's. -/
theorem send_ne_bar : (SemLoc.dma (sendS k) : SemLoc sig) ≠ .reg barS := fun h => by cases h
/-- A receiving semaphore is not the barrier's. -/
theorem arr_ne_bar : (SemLoc.dma (arrS k) : SemLoc sig) ≠ .reg barS := fun h => by cases h
/-- A receiving semaphore is not a sending one. -/
theorem arr_ne_send (j : Dir) : (SemLoc.dma (arrS k) : SemLoc sig) ≠ .dma (sendS j) := fun h => sendS_ne_arrS j k (SemLoc.dma.inj h).symm
/-- Equal sending semaphores have equal directions. -/
theorem send_eq_send {j k : Dir} : (SemLoc.dma (sendS j) : SemLoc sig) = .dma (sendS k) ↔ j = k :=
  ⟨fun h => sendS_inj (SemLoc.dma.inj h), fun h => h ▸ rfl⟩
/-- Equal receiving semaphores have equal directions. -/
theorem arr_eq_arr {j k : Dir} : (SemLoc.dma (arrS j) : SemLoc sig) = .dma (arrS k) ↔ j = k :=
  ⟨fun h => arrS_inj (SemLoc.dma.inj h), fun h => h ▸ rfl⟩

/-- The barrier's cell is signalled from each direction that has a neighbour. -/
theorem active_bar (j : Dir) : Active (barCell c) j ↔ has j c = true := by
  unfold Active; simp [(send_ne_bar j).symm, (arr_ne_bar j).symm]
/-- A sending cell is paid by its own direction's copy, if there is a neighbour. -/
theorem active_send (j : Dir) : Active (sendCell c k) j ↔ j = k ∧ has k c = true := by
  unfold Active
  simp only [send_ne_bar, send_eq_send, (arr_ne_send _ _).symm, false_and, false_or, or_false]
  exact ⟨fun ⟨h, h'⟩ => ⟨h.symm, h ▸ h'⟩, fun ⟨h, h'⟩ => ⟨h.symm, h ▸ h'⟩⟩
/-- A receiving cell is paid by the copy that comes from the opposite side. -/
theorem active_arr (j : Dir) : Active (arrCell c k) j ↔ j = k ∧ has (opp k) c = true := by
  unfold Active
  simp only [arr_ne_bar, arr_eq_arr, arr_ne_send, false_and, false_or, or_false]
  exact ⟨fun ⟨h, h'⟩ => ⟨h.symm, h ▸ h'⟩, fun ⟨h, h'⟩ => ⟨h.symm, h ▸ h'⟩⟩

/-- The duties of the first round. -/
theorem duties_zero (g : GSem nD τ sig) : (xchg (F := F) m ρ).duties g 0
    = if (0 : ℕ) = 0 ∧ g.1.2 = .tc then Finset.univ.filter (Active g) else ∅ := rfl
/-- The barrier's duties. -/
theorem duties_bar : (xchg (F := F) m ρ).duties (barCell c) 0 = Finset.univ.filter fun k => has k c = true := by
  rw [duties_zero, if_pos ⟨rfl, rfl⟩]; exact Finset.filter_congr fun j _ => active_bar c j
/-- A sending cell's duty. -/
theorem duties_send : (xchg (F := F) m ρ).duties (sendCell c k) 0 = if has k c then {k} else ∅ := by
  rw [duties_zero, if_pos ⟨rfl, rfl⟩]; ext j; rw [Finset.mem_filter, active_send]
  split <;> simp [*]
/-- A receiving cell's duty. -/
theorem duties_arr : (xchg (F := F) m ρ).duties (arrCell c k) 0 = if has (opp k) c then {k} else ∅ := by
  rw [duties_zero, if_pos ⟨rfl, rfl⟩]; ext j; rw [Finset.mem_filter, active_arr]
  split <;> simp [*]
/-- No cell has a duty after the first round. -/
theorem duties_later (g : GSem nD τ sig) : ∀ r, 1 ≤ r → (xchg (F := F) m ρ).duties g r = ∅ :=
  fun r hr => if_neg fun h => by omega

/-- What a duty pays. -/
theorem amount_eq (g : GSem nD τ sig) : (xchg (F := F) m ρ).amount g 0 k = if g.2 = .reg barS then 1 else cnt k := rfl
/-- A signal pays the barrier one. -/
theorem amount_bar : (xchg (F := F) m ρ).amount (barCell c) 0 k = 1 := by rw [amount_eq, if_pos rfl]
/-- A copy pays its sending cell its size. -/
theorem amount_send : (xchg (F := F) m ρ).amount (sendCell c k) 0 k = cnt k := by rw [amount_eq, if_neg (send_ne_bar k)]
/-- A copy pays its receiving cell its size. -/
theorem amount_arr : (xchg (F := F) m ρ).amount (arrCell c k) 0 k = cnt k := by rw [amount_eq, if_neg (arr_ne_bar k)]

/-- The barrier expects one unit from each neighbour. -/
theorem expect_bar : (xchg (F := F) m ρ).expect (barCell c) 0 = deg c := by
  unfold Schedule.expect Schedule.amountOf
  rw [duties_bar, Finset.sum_congr rfl fun d _ => amount_bar m ρ c d, Finset.sum_const, smul_eq_mul, mul_one]; rfl
/-- A sending cell expects one copy. -/
theorem expect_send (h : has k c = true) : (xchg (F := F) m ρ).expect (sendCell c k) 0 = cnt k := by
  unfold Schedule.expect Schedule.amountOf; rw [duties_send, if_pos h, Finset.sum_singleton, amount_send]
/-- A receiving cell expects one copy. -/
theorem expect_arr (h : has (opp k) c = true) : (xchg (F := F) m ρ).expect (arrCell c k) 0 = cnt k := by
  unfold Schedule.expect Schedule.amountOf; rw [duties_arr, if_pos h, Finset.sum_singleton, amount_arr]

/-- What a duty hands over. -/
theorem payload_eq (g : GSem nD τ sig) : (xchg (F := F) m ρ).payload g 0 k
    = if g.2 = .reg barS then barPay k g.1.1 else if g.2 = .dma (sendS k) then srcPts m ρ k g.1.1
      else if g.2 = .dma (arrS k) then arrPay m ρ k g.1.1 else iprop(emp) := rfl
/-- A signal hands over the right to write into the signaller's buffer. -/
theorem payload_bar : (xchg (F := F) m ρ).payload (barCell c) 0 k = barPay k c := by rw [payload_eq, if_pos rfl]
/-- A sent copy hands back the face it read. -/
theorem payload_send : (xchg (F := F) m ρ).payload (sendCell c k) 0 k = srcPts m ρ k c := by
  rw [payload_eq, if_neg (send_ne_bar k), if_pos rfl]
/-- An arrived copy hands over the face it wrote. -/
theorem payload_arr : (xchg (F := F) m ρ).payload (arrCell c k) 0 k = arrPay m ρ k c := by
  rw [payload_eq, if_neg (arr_ne_bar k), if_neg (arr_ne_send k k), if_pos rfl]

/-- All that a sending cell hands over is the face. -/
theorem rest_send (h : has k c = true) : bigSep ((xchg (F := F) m ρ).duties (sendCell c k) 0 \ ∅) (fun d => (xchg (F := F) m ρ).payload (sendCell c k) 0 d)
    = srcPts m ρ k c := by
  rw [Finset.sdiff_empty, duties_send, if_pos h, bigSep_singleton, payload_send]
/-- All that a receiving cell hands over is the face that landed. -/
theorem rest_arr (h : has (opp k) c = true) : bigSep ((xchg (F := F) m ρ).duties (arrCell c k) 0 \ ∅) (fun d => (xchg (F := F) m ρ).payload (arrCell c k) 0 d)
    = arrPay m ρ k c := by
  rw [Finset.sdiff_empty, duties_arr, if_pos h, bigSep_singleton, payload_arr]

/-- A send cell's duty list is spent after one round if it has one, and before if it has none. -/
theorem duties_send_after : ∀ r, (if has k c then 1 else 0) ≤ r → (xchg (F := F) m ρ).duties (sendCell c k) r = ∅ := fun r hr => by
  by_cases h0 : r = 0
  · subst h0
    by_cases h : has k c = true
    · rw [if_pos h] at hr; omega
    · rw [duties_send, if_neg h]
  · exact duties_later m ρ _ r (by omega)
/-- A receiving cell has no duty after its copy. -/
theorem duties_arr_after : ∀ r, (if has (opp k) c then 1 else 0) ≤ r → (xchg (F := F) m ρ).duties (arrCell c k) r = ∅ := fun r hr => by
  by_cases h0 : r = 0
  · subst h0
    by_cases h : has (opp k) c = true
    · rw [if_pos h] at hr; omega
    · rw [duties_arr, if_neg h]
  · exact duties_later m ρ _ r (by omega)

end Facts

/-! ## What each core owes at launch, and the order of the waits -/

/-- What device `c` owes for its transfer in direction `k`, -/
def owedSend (c : Dev nD) (k : Dir) : CellTallies nD τ sig Unit := if has k c then tallyAt (arrCell (nbr k c) k) () (cnt k) else 0
/-- and for its signal. -/
def owedSig (c : Dev nD) (k : Dir) : CellTallies nD τ sig Unit := if has k c then tallyAt (barCell (nbr k c)) () 1 else 0

/-- `A` with what a list of directions owes added, the first direction outermost. -/
def plus (f : Dir → CellTallies nD τ sig Unit) : CellTallies nD τ sig Unit → List Dir → CellTallies nD τ sig Unit
  | A, [] => A
  | A, k :: ks => plus f A ks + f k

/-- After the signals a device owes its transfers only. -/
def O₁ (c : Dev nD) : CellTallies nD τ sig Unit := plus (owedSend c) 0 dirs
def O₀ (c : Dev nD) : CellTallies nD τ sig Unit := plus (owedSig c) (O₁ c) dirs

def L (g : GSem nD τ sig) : Finset Unit := if g.1.2 = .tc then {()} else ∅
/-- Barrier cells are awaited before arrival cells; the others owe nothing to wait for. -/
def lv (g : GSem nD τ sig) (_ : Unit) : ℕ := if g.2 = .reg barS then 1 else if ∃ k, g.2 = .dma (arrS k) then 2 else 0

/-- Only a TensorCore's cells have a level. -/
theorem L_of_ne (g : GSem nD τ sig) (h : g.1.2 ≠ .tc) : L g = ∅ := if_neg h
/-- A TensorCore's cell has one level. -/
theorem L_tc (c : Dev nD) (sm : SemLoc sig) : L ((c : Thread nD τ), sm) = {()} := if_pos rfl
/-- The barrier's level. -/
theorem lv_bar (c : Dev nD) : lv (barCell c) () = 1 := if_pos rfl
/-- A receiving cell's level. -/
theorem lv_arr (c : Dev nD) (k : Dir) : lv (arrCell c k) () = 2 := (if_neg (arr_ne_bar k)).trans (if_pos ⟨k, rfl⟩)

/-- A positive amount owed in a sum comes from its start or one of its summands. -/
theorem plus_pos {f : Dir → CellTallies nD τ sig Unit} {A : CellTallies nD τ sig Unit} {ks : List Dir} {g : GSem nD τ sig} {u : Unit}
    (h : 0 < plus f A ks g u) : 0 < A g u ∨ ∃ k, 0 < f k g u := by
  induction ks with
  | nil => exact Or.inl h
  | cons k ks ih =>
    unfold plus at h
    rw [Pi.add_apply, Finsupp.add_apply] at h
    rcases Nat.eq_zero_or_pos (f k g u) with h0 | h0
    · exact ih (by omega)
    · exact Or.inr ⟨k, h0⟩

/-- Where a copy is owed. -/
theorem owedSend_pos {c : Dev nD} {k : Dir} {g : GSem nD τ sig} {u : Unit} (h : 0 < owedSend c k g u) : g = arrCell (nbr k c) k := by
  unfold owedSend at h
  split at h
  · rw [tallyAt_apply] at h
    by_contra hn
    rw [if_neg (fun h' => hn h'.1)] at h
    exact Nat.lt_irrefl 0 h
  · exact absurd h (Nat.lt_irrefl 0)
/-- Where a signal is owed. -/
theorem owedSig_pos {c : Dev nD} {k : Dir} {g : GSem nD τ sig} {u : Unit} (h : 0 < owedSig c k g u) : g = barCell (nbr k c) := by
  unfold owedSig at h
  split at h
  · rw [tallyAt_apply] at h
    by_contra hn
    rw [if_neg (fun h' => hn h'.1)] at h
    exact Nat.lt_irrefl 0 h
  · exact absurd h (Nat.lt_irrefl 0)

/-- Where something is owed once the signals are sent. -/
theorem O₁_pos {c : Dev nD} {g : GSem nD τ sig} {u : Unit} (h : 0 < O₁ c g u) : ∃ k, g = arrCell (nbr k c) k := by
  rcases plus_pos h with h | ⟨k, h⟩
  · exact absurd h (Nat.lt_irrefl 0)
  · exact ⟨k, owedSend_pos h⟩
/-- Where something is owed at the start. -/
theorem O₀_pos {c : Dev nD} {g : GSem nD τ sig} {u : Unit} (h : 0 < O₀ c g u) :
    (∃ k, g = arrCell (nbr k c) k) ∨ ∃ k, g = barCell (nbr k c) := by
  rcases plus_pos h with h | ⟨k, h⟩
  · exact Or.inl (O₁_pos h)
  · exact Or.inr ⟨k, owedSig_pos h⟩

/-- A wait on a staging semaphore is below everything owed. -/
theorem mayWait_stage (c : Dev nD) (q : DmaSem sig) (hq : ∀ k, q ≠ arrS k) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by
        rw [Finset.mem_singleton.mp hp]; dsimp only [lv]
        rw [if_neg (fun h => by cases h), if_neg fun ⟨k, h⟩ => hq k (SemLoc.dma.inj h)])
      (fun g u hg => by
        rcases O₀_pos hg with ⟨k, rfl⟩ | ⟨k, rfl⟩
        · rw [lv_arr]; decide
        · rw [lv_bar]; decide)
  · rw [MayWait_zero]; iintro -; iempintro

/-- At the barrier a device owes its transfers only, which count on arrival cells, awaited later. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨k, rfl⟩ := O₁_pos hg; exact Finset.mem_singleton_self _)
    (fun p hp => by rw [Finset.mem_singleton.mp hp]; exact le_of_eq (lv_bar c))
    (fun g u hg => by obtain ⟨k, rfl⟩ := O₁_pos hg; rw [lv_arr]; decide)

end Cert.Halo

end
-- ==== Proof.StepRules.lean ====
/-
# What each step does

A rule for each of the kernel's steps, uniform in the direction: what a device needs to take it and what it has
afterwards, whether or not there is a neighbour in that direction.
-/
module

public import proofs.«01_k».proof.Proof.Schedule

@[expose] public section

noncomputable section

namespace Cert.Halo

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The records of the cells -/

/-- A device's cells: its barrier's, and a send and an arrival cell for each direction. -/
abbrev CI : Type := Unit ⊕ (Dir ⊕ Dir)
abbrev barI : CI := .inl ()
abbrev sendI (k : Dir) : CI := .inr (.inl k)
abbrev arrI (k : Dir) : CI := .inr (.inr k)

def csem : CI → SemLoc sig
  | .inl _ => .reg barS
  | .inr (.inl k) => .dma (sendS k)
  | .inr (.inr k) => .dma (arrS k)
abbrev kcell (x : Dev nD × CI) : GSem nD τ sig := ((x.1 : Thread nD τ), csem x.2)

variable (K : Dev nD × CI → ℕ)

/-- Every cell's invariant, and that its count has begun. -/
def records : sProp 𝕄 :=
  iprop((bigSep Finset.univ fun x : Dev nD × CI => cellInv ER (xchg m ρ) (K x) (kcell x))
    ∗ bigSep Finset.univ fun x : Dev nD × CI => reached ER (kcell x) 0)

instance records_persistent : BI.Persistent (records m ρ K) := by unfold records; infer_instance

/-- One invariant out of all. -/
theorem invs_elim (x : Dev nD × CI) :
    (bigSep Finset.univ fun x : Dev nD × CI => (cellInv ER (xchg m ρ) (K x) (kcell x) : sProp 𝕄)) ⊢ cellInv ER (xchg m ρ) (K x) (kcell x) :=
  bigSep_elim (Finset.mem_univ x)
/-- One cell's reached round out of all. -/
theorem reached_elim (x : Dev nD × CI) :
    (bigSep Finset.univ fun x : Dev nD × CI => (reached ER (kcell x) 0 : sProp 𝕄)) ⊢ reached ER (kcell x) 0 :=
  bigSep_elim (Finset.mem_univ x)
/-- The records hold each cell's invariant. -/
theorem inv_at (x : Dev nD × CI) : records m ρ K ⊢ cellInv ER (xchg m ρ) (K x) (kcell x) := by
  unfold records; iintro ⟨H, -⟩; iapply (invs_elim m ρ K x); iexact H
/-- The records hold that each cell reached its first round. -/
theorem reached_at (x : Dev nD × CI) : records m ρ K ⊢ reached ER (kcell x) 0 := by
  unfold records; iintro ⟨-, H⟩; iapply (reached_elim (F := F) x); iexact H

/-- `R` if the test holds, else nothing. -/
def given (b : Bool) (R : sProp 𝕄) : sProp 𝕄 := if b then R else iprop(emp)
omit [FloatOps F] in
/-- A conditional resource whose condition holds. -/
theorem given_true {b : Bool} (h : b = true) (R : sProp 𝕄) : given b R = R := by rw [given, h]; rfl
omit [FloatOps F] in
/-- A conditional resource whose condition fails. -/
theorem given_false {b : Bool} (h : ¬ b = true) (R : sProp 𝕄) : given b R = iprop(emp) := by rw [given, if_neg h]

/-- What core `c` owes, whatever it has awaited. -/
abbrev Owes (c : Dev nD) (O : CellTallies nD τ sig Unit) : sProp 𝕄 := iprop(∃ W, owes (c : Thread nD τ) O W)

/-- The weakest precondition of a program on core `c`. -/
abbrev Wp {α : Type} (c : Dev nD) (p : P F α) (Q : α → sProp 𝕄) : sProp 𝕄 :=
  wp frame (wpE (defs₀ (F := F)) 𝒱₀ (c : Thread nD τ) none) Set.univ p Q

variable {α : Type} (c : Dev nD) (Q : α → sProp (MT nD τ sig Unit (Elt F) ℕ UU ℕ)) (rest : P F α)

/-! ## The signal -/

/-- The rule for a signal to a neighbour. -/
theorem wp_signal_to (k : Dir) (n : Dev nD) (hn : n = nbr k c) (h : has k c = true) (O : CellTallies nD τ sig Unit) :
    iprop(records m ρ K ∗ Owes c (O + tallyAt (barCell (nbr k c)) () 1) ∗ dutyTok ER (barCell (nbr k c)) 0 (opp k) ∗ (∃ f, landPts (opp k) c f)
        ∗ (Owes c O -∗ Wp c rest Q))
      ⊢ Wp c (.op (.semSignal (n, .tc) barS (1#32 : BitVec 32).toInt) fun _ => rest) Q := by
  subst hn
  iintro ⟨#HR, ⟨%W, HO⟩, Ht, Hl, Hk⟩
  iapply (Rounds.wp_signal 𝒱₀ ER (xchg m ρ) (c : Thread nD τ) none (dst := (nbr k c : Thread nD τ)) (κ := K (nbr k c, barI))
      (d := opp k) (by rw [duties_bar]; exact Finset.mem_filter.mpr ⟨Finset.mem_univ _, (has_opp k c).trans h⟩)
      ((amount_bar m ρ (nbr k c) (opp k)).trans (by decide)) () O rfl) $$ [HO Ht Hl]
  · isplitr; · iapply (inv_at m ρ K (nbr k c, barI)); iexact HR
    isplitl [HO]; · iexact HO
    isplitl [Ht]; · iexact Ht
    isplitl [Hl]
    · rw [payload_bar]; unfold barPay; rw [nbr_opp]
      isplitl [Hl]; · iexact Hl
      iapply (reached_at m ρ K (c, arrI (opp k))); iexact HR
    iapply (reached_at m ρ K (nbr k c, barI)); iexact HR
  iintro HO
  iapply Hk; iexists _; iexact HO

/-- A device signals the neighbour in direction `k` with the buffer that neighbour's face will land in, or keeps the
    buffer if there is none. -/
theorem wp_sigStep (k : Dir) (A : CellTallies nD τ sig Unit) (ks : List Dir) :
    iprop(records m ρ K ∗ Owes c (plus (owedSig c) A (k :: ks)) ∗ dutyTok ER (barCell (nbr k c)) 0 (opp k) ∗ (∃ f, landPts (opp k) c f)
        ∗ ((Owes c (plus (owedSig c) A ks) ∗ given (!has k c) iprop(∃ f, landPts (opp k) c f)) -∗ Wp c rest Q))
      ⊢ Wp c (sigStep k c rest) Q := by
  unfold sigStep
  split
  · rename_i h
    have h' := (sigCond_iff k c).mp h
    iintro ⟨#HR, HO, Ht, Hl, Hk⟩
    iapply (wp_signal_to m ρ K c Q rest k _ (Fin.ext (sigDev_eq k c h')) h' (plus (owedSig c) A ks))
    isplitr; · iexact HR
    isplitl [HO]
    · rw [plus, owedSig, if_pos h']; iexact HO
    isplitl [Ht]; · iexact Ht
    isplitl [Hl]; · iexact Hl
    iintro HO
    iapply Hk
    rw [given_false (by rw [h']; decide)]
    isplitl [HO]; · iexact HO
    iempintro
  · rename_i h
    have h' := (not_congr (sigCond_iff k c)).mp h
    iintro ⟨#HR, HO, Ht, Hl, Hk⟩
    iapply Hk
    rw [given_true (by rw [Bool.not_eq_true] at h'; rw [h']; rfl)]
    isplitl [HO]
    · rw [plus, owedSig, if_neg h', add_zero]; iexact HO
    iexact Hl

/-! ## The barrier -/

/-- What all of the barrier's duties hand over. -/
theorem bars_eq : bigSep ((xchg (F := F) m ρ).duties (barCell c) 0) (fun k => (xchg (F := F) m ρ).payload (barCell c) 0 k)
    = bigSep Finset.univ fun k : Dir => given (has k c) (barPay (F := F) k c) := by
  rw [duties_bar, bigSep_congr fun k _ => payload_bar m ρ c k, bigSep_filter]; rfl

/-- After the barrier a device has, from each neighbour, the buffer its face will land in there. -/
theorem wp_barStep : iprop(records m ρ K ∗ levAts L lv ∗ Owes c (O₁ c) ∗ cred (tallyAt (barCell c) () (deg c)) ∗ atPos ER (barCell c) 0 ∅ 0
        ∗ ((Owes c (O₁ c) ∗ atPos ER (barCell c) 1 ∅ 0 ∗ bigSep Finset.univ fun k : Dir => given (has k c) (barPay (F := F) k c)) -∗ Wp c rest Q))
      ⊢ Wp c (barStep c rest) Q := by
  unfold barStep
  iintro ⟨#HR, #Hl, ⟨%W, HO⟩, Hc, Hat, Hk⟩
  split
  · rename_i h
    have hd : deg c = 4 := by rw [deg_extra, if_pos h]
    rw [hd, show (4 : ℕ) = 3 + 1 from rfl, ← tallyAt_add]
    ihave Hcc := (cred_add _ _).1 $$ Hc
    icases Hcc with ⟨Hc3, Hc1⟩
    iapply (Rounds.wp_wait 𝒱₀ ER (xchg m ρ) (c : Thread nD τ) none (κ := K (c, barI))
      (wpE_semWait_eq 𝒱₀ (c : Thread nD τ) none Set.univ) (Set.mem_univ _) {(SemLoc.reg barS, ())} (cr := Finsupp.single () 3) (R := 0) (m := 0) (T := ∅) (O := O₁ c) (W := W)
      (Util.total_single _ _) (image_single_subset _ _ _)) $$ [Hc3 HO Hat]
    · isplitr; · iapply (inv_at m ρ K (c, barI)); iexact HR
      isplitl [Hc3]; · iexact Hc3
      isplitl [HO]; · iexact HO
      isplitr; · iapply (mayWait_bar c); iexact Hl
      iexact Hat
    iintro %S ⟨%hS, HO, Hat, Hp⟩
    iapply (Rounds.wp_wait_rest_token 𝒱₀ ER (xchg m ρ) (c : Thread nD τ) none (κ := K (c, barI))
        (wpE_semWait_eq 𝒱₀ (c : Thread nD τ) none Set.univ) (Set.mem_univ _) () (O := O₁ c) (R := 0) (m := 0 + (3#32 : BitVec 32).toNat) (T := S)
        (by rw [expect_bar, hd]; decide)) $$ [Hc1 HO Hat]
    · isplitr; · iapply (inv_at m ρ K (c, barI)); iexact HR
      isplitl [Hc1]; · iexact Hc1
      isplitl [HO]; · iexact HO
      isplitr; · iapply (mayWait_bar c); iexact Hl
      iexact Hat
    iintro ⟨HO, Hat, -, Hp'⟩
    iapply Hk
    isplitl [HO]; · iexists _; iexact HO
    isplitl [Hat]; · iexact Hat
    ihave Hp := (Entails.of_eq (congrArg (fun s => bigSep s _) (Finset.sdiff_empty))) $$ Hp
    iapply (show iprop(bigSep S (fun k => (xchg (F := F) m ρ).payload (barCell c) 0 k)
        ∗ bigSep ((xchg (F := F) m ρ).duties (barCell c) 0 \ S) (fun k => (xchg (F := F) m ρ).payload (barCell c) 0 k)) ⊢ _ from
      Entails.of_eq ((bigSep_sdiff_split hS.2.1).symm.trans (bars_eq m ρ c)))
    isplitl [Hp] <;> iassumption
  · rename_i h
    have hd : deg c = 3 := by rw [deg_extra, if_neg h]
    rw [hd]
    iapply (Rounds.wp_wait_rest_token 𝒱₀ ER (xchg m ρ) (c : Thread nD τ) none (κ := K (c, barI))
        (wpE_semWait_eq 𝒱₀ (c : Thread nD τ) none Set.univ) (Set.mem_univ _) () (O := O₁ c) (W := W) (R := 0) (m := 0) (T := ∅)
        (by rw [expect_bar, hd]; decide)) $$ [Hc HO Hat]
    · isplitr; · iapply (inv_at m ρ K (c, barI)); iexact HR
      isplitl [Hc]; · iexact Hc
      isplitl [HO]; · iexact HO
      isplitr; · iapply (mayWait_bar c); iexact Hl
      iexact Hat
    iintro ⟨HO, Hat, -, Hp⟩
    iapply Hk
    isplitl [HO]; · iexists _; iexact HO
    isplitl [Hat]; · iexact Hat
    ihave Hp := (Entails.of_eq ((congrArg (fun s => bigSep s _) (Finset.sdiff_empty)).trans (bars_eq m ρ c))) $$ Hp
    iexact Hp

/-! ## The transfers -/

/-- What is left of direction `k`'s source until the transfer has left: the credit to await it by, or the source
    itself if nothing was sent. -/
def sentSt (k : Dir) (c : Dev nD) : sProp 𝕄 :=
  if has k c then cred (tallyAt (sendCell c k) () (cnt k)) else srcPts m ρ k c

/-- A transfer at the exchange's cells, addressed to `n`, the neighbour in direction `k`. -/
theorem wp_send_to (k : Dir) (n : Dev nD) (hn : n = nbr k c) (h : has k c = true) (O : CellTallies nD τ sig Unit)
    {hsc : (land k).view.ref.isScScratch = false} {hsrc : (src k).view.WordExact} {hdst : (land k).view.WordExact}
    {hsem : DmaTarget.Typed .vmem (.dma (arrS k)) (.remote (Dev.tc n : Thread nD τ) (land k) (.dma (sendS k)) hsc)} :
    iprop(records m ρ K ∗ Owes c (O + tallyAt (arrCell (nbr k c) k) () (cnt k)) ∗ barPay k c ∗ srcPts m ρ k c
        ∗ dutyTok ER (sendCell c k) 0 k ∗ dutyTok ER (arrCell (nbr k c) k) 0 k
        ∗ ((Owes c O ∗ cred (tallyAt (sendCell c k) () (cnt k))) -∗ Wp c rest Q))
      ⊢ Wp c (.op (.enqueueDma (src k) (.remote (Dev.tc n : Thread nD τ) (land k) (.dma (sendS k)) hsc) (.dma (arrS k)) hsrc hdst hsem) fun _ => rest) Q := by
  subst hn
  unfold barPay srcPts landPts
  iintro ⟨#HR, ⟨%W, HO⟩, ⟨⟨%f, Hl⟩, #HA⟩, Hs, Ht, Ht', Hk⟩
  iapply (Rounds.wp_send_pointsTo 𝒱₀ ER (xchg m ρ) (c : Thread nD τ) none (κ₁ := K (c, sendI k)) (κ₂ := K (nbr k c, arrI k))
    (r₁ := 0) (r₂ := 0) (d₁ := k) (d₂ := k) (fd := f)
    (by rw [duties_send, if_pos h]; exact Finset.mem_singleton_self _)
    (by rw [duties_arr, if_pos ((has_opp k c).trans h)]; exact Finset.mem_singleton_self _)
    () () (cnt k) rfl (amount_send m ρ c k) (amount_arr m ρ (nbr k c) k) O rfl (W := W)
    (by rw [payload_send]; exact BI.Entails.refl _)
    (by rw [payload_arr]; unfold arrPay landPts landedC; rw [nbr_opp]; iintro H; iexists f; iexact H)) $$ [HO Hl Hs Ht Ht']
  · isplitr; · iapply (inv_at m ρ K (c, sendI k)); iexact HR
    isplitr; · iapply (inv_at m ρ K (nbr k c, arrI k)); iexact HR
    isplitl [Hs]; · iexact Hs
    isplitl [Hl]; · iexact Hl
    isplitl [HO]; · iexact HO
    isplitl [Ht]; · iexact Ht
    isplitr; · iapply (reached_at m ρ K (c, sendI k)); iexact HR
    isplitl [Ht']; · iexact Ht'
    iexact HA
  iintro ⟨Hc, HO⟩
  iapply Hk
  isplitl [HO]; · iexists _; iexact HO
  iexact Hc

/-- A device sends its face in direction `k` into the buffer it was handed, or does nothing if there is no neighbour. -/
theorem wp_sendStep (k : Dir) (A : CellTallies nD τ sig Unit) (ks : List Dir) :
    iprop(records m ρ K ∗ Owes c (plus (owedSend c) A (k :: ks)) ∗ given (has k c) (barPay (F := F) k c) ∗ srcPts m ρ k c
        ∗ dutyTok ER (sendCell c k) 0 k ∗ dutyTok ER (arrCell (nbr k c) k) 0 k
        ∗ ((Owes c (plus (owedSend c) A ks) ∗ sentSt m ρ k c) -∗ Wp c rest Q))
      ⊢ Wp c (sendStep k c rest) Q := by
  unfold sendStep sentSt
  by_cases h : sendCond k c = 1#1
  · rw [dif_pos h]
    have h' := (sendCond_iff k c).mp h
    rw [if_pos h', given_true h']
    iintro ⟨#HR, HO, Hb, Hs, Ht, Ht', Hk⟩
    iapply (wp_send_to m ρ K c Q rest k _ (Fin.ext (sendDev_eq k c h')) h' (plus (owedSend c) A ks))
    isplitr; · iexact HR
    isplitl [HO]
    · rw [plus, owedSend, if_pos h']; iexact HO
    isplitl [Hb]; · iexact Hb
    isplitl [Hs]; · iexact Hs
    isplitl [Ht]; · iexact Ht
    isplitl [Ht']; · iexact Ht'
    iexact Hk
  · rw [dif_neg h]
    have h' := (not_congr (sendCond_iff k c)).mp h
    rw [if_neg h']
    iintro ⟨#HR, HO, Hb, Hs, Ht, Ht', Hk⟩
    iapply Hk
    isplitl [HO]
    · rw [plus, owedSend, if_neg h', add_zero]; iexact HO
    iexact Hs

/-- How far a cell's position has come once its one duty, if it has one, is done. -/
def rounds (b : Bool) : ℕ := if b then 1 else 0

/-- The size that a copy pays. -/
theorem src_credit (k : Dir) : (src k).view.dmaCredit = cnt k := by revert k; decide

/-- A device awaits that its face in direction `k` has left, and has its source back. -/
theorem wp_sentStep (k : Dir) :
    iprop(records m ρ K ∗ Owes c 0 ∗ sentSt m ρ k c ∗ atPos ER (sendCell c k) 0 ∅ 0
        ∗ ((Owes c 0 ∗ srcPts m ρ k c ∗ atPos ER (sendCell c k) (rounds (has k c)) ∅ 0) -∗ Wp c rest Q))
      ⊢ Wp c (sentStep k c rest) Q := by
  unfold sentStep sentSt rounds
  by_cases h : waitCond k c = 1#1
  · rw [dif_pos h]
    have h' := (waitCond_iff k c).mp h
    rw [if_pos h', if_pos h']
    iintro ⟨#HR, ⟨%W, HO⟩, Hc, Hat, Hk⟩
    iapply (Rounds.wp_wait_rest_token 𝒱₀ ER (xchg m ρ) (c : Thread nD τ) none (κ := K (c, sendI k))
        (wpE_waitDma2_eq 𝒱₀ (c : Thread nD τ) none Set.univ) (Set.mem_univ _) () (O := 0) (W := W) (R := 0) (m := 0) (T := ∅)
        (by rw [Nat.zero_add, expect_send m ρ c k h']; exact src_credit k)) $$ [Hc HO Hat]
    · isplitr; · iapply (inv_at m ρ K (c, sendI k)); iexact HR
      isplitl [Hc]; · iexact Hc
      isplitl [HO]; · iexact HO
      isplitr; · rw [MayWait_zero]; iempintro
      iexact Hat
    iintro ⟨HO, Hat, -, Hp⟩
    iapply Hk
    isplitl [HO]; · iexists _; iexact HO
    isplitl [Hp]
    · ihave Hp := (Entails.of_eq (rest_send m ρ c k h')) $$ Hp
      iexact Hp
    iexact Hat
  · rw [dif_neg h]
    have h' := (not_congr (waitCond_iff k c)).mp h
    rw [if_neg h', if_neg h']
    iintro ⟨#HR, HO, Hs, Hat, Hk⟩
    iapply Hk
    isplitl [HO]; · iexact HO
    isplitl [Hs]; · iexact Hs
    iexact Hat

/-! ## The result's faces -/

/-- Core `c`'s copy of its block of the result, holding `o`. -/
def outPts (c : Dev nD) (o : (cc0_stg1_0 : Ref sig .tc).ty.Contents (Elt F)) : sProp 𝕄 := ((c : Thread nD τ).loc cc0_stg1_0) ↦{fullShare} o

/-- What a store of `w` on the window `r` of a block `o` leaves. -/
def stored (r : Rect S64x64x64) (o : (cc0_stg1_0 : Ref sig .tc).ty.Contents (Elt F)) (w : r.shape.Idx → Elt F .f32) :
    (cc0_stg1_0 : Ref sig .tc).ty.Contents (Elt F) := (oM.access r).write (Elt F) o w Finset.univ
/-- What a load of the window `r` of a block `o` yields. -/
def loaded (r : Rect S64x64x64) (o : (cc0_stg1_0 : Ref sig .tc).ty.Contents (Elt F)) : r.shape.Idx → Elt F .f32 :=
  oM.view.readAt (Elt F) r.toLoadRect o

/-- A load from the result, -/
theorem wp_loadO (r : Rect S64x64x64) (o : (cc0_stg1_0 : Ref sig .tc).ty.Contents (Elt F)) (hl : oM.view.LoadsAt r.toLoadRect)
    (k : (r.shape.Idx → Elt F .f32) → P F α) :
    iprop(outPts c o ∗ (outPts c o -∗ Wp c (k (loaded r o)) Q)) ⊢ Wp c (.op (.load oM r.toLoadRect hl) k) Q := by
  unfold outPts
  iintro ⟨Ho, Hk⟩
  iapply (wp_load 𝒱₀ (c : Thread nD τ) none Set.univ (m := oM) (Finset.subset_univ _)) $$ Ho
  iexact Hk

/-- and a store into it. -/
theorem wp_storeO (r : Rect S64x64x64) (o : (cc0_stg1_0 : Ref sig .tc).ty.Contents (Elt F)) (w : r.shape.Idx → Elt F .f32)
    (hs : (oM.access r).Stores Finset.univ) {hm : _} :
    iprop(outPts c o ∗ (outPts c (stored r o w) -∗ Wp c rest Q)) ⊢ Wp c (.op (.store oM r w Finset.univ hs hm) fun _ => rest) Q := by
  unfold outPts
  iintro ⟨Ho, Hk⟩
  iapply (wp_store 𝒱₀ (c : Thread nD τ) none Set.univ (m := oM) (r := r) (Mk := Finset.univ) (Finset.subset_univ _)) $$ Ho
  iexact Hk

/-- The half of the block the kernel's own loads use. -/
def inPts (c : Dev nD) : sProp 𝕄 := ((c : Thread nD τ).loc cc0_stg0_0) ↦{fullShare.left} ublk m ρ c

/-- A load from the input block. -/
theorem wp_loadU (r : Rect S64x64x64) (hl : uM.view.LoadsAt r.toLoadRect) (k : (r.shape.Idx → Elt F .f32) → P F α) :
    iprop(inPts m ρ c ∗ (inPts m ρ c -∗ Wp c (k (uM.view.readAt (Elt F) r.toLoadRect (ublk m ρ c))) Q))
      ⊢ Wp c (.op (.load uM r.toLoadRect hl) k) Q := by
  unfold inPts
  iintro ⟨Hu, Hk⟩
  iapply (wp_load 𝒱₀ (c : Thread nD τ) none Set.univ (m := uM) (Finset.subset_univ _)) $$ Hu
  iexact Hk

/-- The result after a window of the block is added to a window of it. -/
def added (r r' : Rect S64x64x64) (pay : (r.shape.Idx → Elt F .f32) → (r'.shape.Idx → Elt F .f32) → (r.shape.Idx → Elt F .f32))
    (c : Dev nD) (o : (cc0_stg1_0 : Ref sig .tc).ty.Contents (Elt F)) : (cc0_stg1_0 : Ref sig .tc).ty.Contents (Elt F) :=
  stored r o (pay (loaded r o) (uM.view.readAt (Elt F) r'.toLoadRect (ublk m ρ c)))

/-- The rule for adding a shifted part of the input to the output. -/
theorem wp_addStep (r r' : Rect S64x64x64) (hl : oM.view.LoadsAt r.toLoadRect) (hl' : uM.view.LoadsAt r'.toLoadRect)
    (hs : (oM.access r).Stores Finset.univ)
    (pay : (r.shape.Idx → Elt F .f32) → (r'.shape.Idx → Elt F .f32) → (r.shape.Idx → Elt F .f32))
    (o : (cc0_stg1_0 : Ref sig .tc).ty.Contents (Elt F)) :
    iprop(inPts m ρ c ∗ outPts c o ∗ ((inPts m ρ c ∗ outPts c (added m ρ r r' pay c o)) -∗ Wp c rest Q))
      ⊢ Wp c (addStep r r' hl hl' hs pay rest) Q := by
  unfold addStep
  iintro ⟨Hu, Ho, Hk⟩
  iapply (wp_loadO c Q r o hl)
  isplitl [Ho]; · iexact Ho
  iintro Ho
  iapply (wp_loadU m ρ c Q r' hl')
  isplitl [Hu]; · iexact Hu
  iintro Hu
  iapply (wp_loadO c Q r o hl)
  isplitl [Ho]; · iexact Ho
  iintro Ho
  iapply (wp_storeO c Q rest r o _ hs)
  isplitl [Ho]; · iexact Ho
  iintro Ho
  iapply Hk
  unfold added
  isplitl [Hu] <;> iassumption

/-- The result after the boundary test on side `j`: the face zero if it is on the boundary. -/
def zeroed (j : Dir) (c : Dev nD) (o : (cc0_stg1_0 : Ref sig .tc).ty.Contents (Elt F)) : (cc0_stg1_0 : Ref sig .tc).ty.Contents (Elt F) :=
  if has j c then o else stored (face j) o (zeroFace j)

/-- The rule for putting zeros on a face of the output. -/
theorem wp_zeroStep (j : Dir) (o : (cc0_stg1_0 : Ref sig .tc).ty.Contents (Elt F)) :
    iprop(outPts c o ∗ (outPts c (zeroed j c o) -∗ Wp c rest Q)) ⊢ Wp c (zeroStep j c rest) Q := by
  unfold zeroStep zeroed
  by_cases h : edgeCond j c = 1#1
  · rw [dif_pos h]
    rw [if_neg (by rw [(edgeCond_iff j c).mp h]; decide)]
    iintro ⟨Ho, Hk⟩
    iapply (wp_loadO c Q (face j) o (face_loads j))
    isplitl [Ho]; · iexact Ho
    iintro Ho
    iapply (wp_storeO c Q rest (face j) o _ (face_stores j))
    isplitl [Ho]; · iexact Ho
    iexact Hk
  · rw [dif_neg h]
    have h' := (not_congr (edgeCond_iff j c)).mp h
    rw [if_pos (by rwa [Bool.not_eq_false] at h')]
    iintro ⟨Ho, Hk⟩
    iapply Hk; iexact Ho

/-! ## The landed faces -/

/-- The face that lands on side `j` of device `c`: the one its neighbour there sent towards it. -/
def got (j : Dir) (c : Dev nD) : (bface j).shape.Idx → Elt F .f32 :=
  match j with
  | 0 => (src 1).view.read (Elt F) (srcC m ρ 1 (nbr 0 c))
  | 1 => (src 0).view.read (Elt F) (srcC m ρ 0 (nbr 1 c))
  | 2 => (src 3).view.read (Elt F) (srcC m ρ 3 (nbr 2 c))
  | 3 => (src 2).view.read (Elt F) (srcC m ρ 2 (nbr 3 c))
  | 4 => (src 5).view.read (Elt F) (srcC m ρ 5 (nbr 4 c))
  | 5 => (src 4).view.read (Elt F) (srcC m ρ 4 (nbr 5 c))

/-- The zero offset in two axes. -/
theorem zero2 : (![0, 0] : Fin 2 → Nat) = fun _ => 0 := funext fun a => by fin_cases a <;> rfl

/-- What was written on a window of a buffer is what a load of the window yields. -/
theorem wp_loadWindow {s : Shape} (M : Memref sig .tc .vmem s .f32) (r : Rect s) (hl : M.view.LoadsAt r.toLoadRect)
    (f : Buf (Elt F) ((M.access r).loc (c : Thread nD τ))) (x : r.shape.Idx → Elt F .f32) (k : (r.shape.Idx → Elt F .f32) → P F α) :
    iprop(((M.access r).loc (c : Thread nD τ) ↦[(M.access r).set]{fullShare} (M.access r).write (Elt F) f x Finset.univ)
        ∗ ((∃ f, (M.access r).loc (c : Thread nD τ) ↦[(M.access r).set]{fullShare} f) -∗ Wp c (k x) Q))
      ⊢ Wp c (.op (.load M r.toLoadRect hl) k) Q := by
  iintro ⟨Hl, Hk⟩
  iapply (wp_load_rect 𝒱₀ (c : Thread nD τ) none Set.univ (m := M) (Finset.Subset.refl _)) $$ Hl
  iintro Hl
  rw [View.read_write_univ]
  iapply Hk
  iexists _; iexact Hl

/-- What was written on a whole buffer of this shape is what a load of all of it yields. -/
theorem wp_loadWhole (M : Memref sig .tc .vmem S64x64 .f32) (hM : M.view.set = Finset.univ) (hl : M.view.LoadsAt rP.toLoadRect)
    (hr : ∀ f, M.view.readAt (Elt F) rP.toLoadRect f = M.view.read (Elt F) f)
    (f : Buf (Elt F) (M.view.loc (c : Thread nD τ))) (x : rP.shape.Idx → Elt F .f32) (k : (rP.shape.Idx → Elt F .f32) → P F α) :
    iprop((M.view.loc (c : Thread nD τ) ↦[M.view.set]{fullShare} M.view.write (Elt F) f x Finset.univ)
        ∗ ((∃ f, M.view.loc (c : Thread nD τ) ↦[M.view.set]{fullShare} f) -∗ Wp c (k x) Q))
      ⊢ Wp c (.op (.load M rP.toLoadRect hl) k) Q := by
  iintro ⟨Hl, Hk⟩
  iapply (wp_load 𝒱₀ (c : Thread nD τ) none Set.univ (m := M) (by rw [hM]; exact Finset.subset_univ _)) $$ Hl
  iintro Hl
  rw [hr, View.read_write_univ]
  iapply Hk
  iexists _; iexact Hl

/-- It is what is read back of the buffer it landed in, whatever was there before. -/
theorem wp_loadLanded (j : Dir) (b : Dev nD) (hb : b = nbr j c) (f : Buf (Elt F) ((land (opp j)).view.loc (c : Thread nD τ)))
    (hl : (buf j).view.LoadsAt (bface j).toLoadRect) (k : ((bface j).shape.Idx → Elt F .f32) → P F α) :
    iprop(landPts (opp j) c (landedC m ρ (opp j) b c f) ∗ ((∃ f, landPts (opp j) c f) -∗ Wp c (k (got m ρ j c)) Q))
      ⊢ Wp c (.op (.load (buf j) (bface j).toLoadRect hl) k) Q := by
  subst hb
  match j with
  | 0 => exact wp_loadWindow c Q (Memref.whole cc0_scratch4) rX1 hl f (got m ρ 0 c) k
  | 1 => exact wp_loadWindow c Q (Memref.whole cc0_scratch5) rX0 hl f (got m ρ 1 c) k
  | 2 => exact wp_loadWindow c Q (Memref.whole cc0_scratch6) rY1 hl f (got m ρ 2 c) k
  | 3 => exact wp_loadWindow c Q (Memref.whole cc0_scratch7) rY0 hl f (got m ρ 3 c) k
  | 4 =>
    exact wp_loadWhole c Q (Memref.whole cc0_scratch2) (View.set_whole _) hl
      (fun f => Memref.readAt_unit_zero (Elt F) cc0_scratch2 zero2 _ f) f (got m ρ 4 c) k
  | 5 =>
    exact wp_loadWhole c Q (Memref.whole cc0_scratch3) (View.set_whole _) hl
      (fun f => Memref.readAt_unit_zero (Elt F) cc0_scratch3 zero2 _ f) f (got m ρ 5 c) k

/-- The result after side `j`'s face, if there is a neighbour, is added. -/
def received (j : Dir) (c : Dev nD) (o : (cc0_stg1_0 : Ref sig .tc).ty.Contents (Elt F)) : (cc0_stg1_0 : Ref sig .tc).ty.Contents (Elt F) :=
  if has j c then stored (face j) o (addFace j (loaded (face j) o) (got m ρ j c)) else o

/-- A device awaits the face from side `j` and adds it to the result, and then holds the buffer it landed in. -/
theorem wp_recvStep (j : Dir) (o : (cc0_stg1_0 : Ref sig .tc).ty.Contents (Elt F)) :
    iprop(records m ρ K ∗ Owes c 0 ∗ given (has j c) iprop(cred (tallyAt (arrCell c (opp j)) () (cnt (opp j)))) ∗ atPos ER (arrCell c (opp j)) 0 ∅ 0
        ∗ given (!has j c) iprop(∃ f, landPts (F := F) (opp j) c f) ∗ outPts c o
        ∗ ((Owes c 0 ∗ atPos ER (arrCell c (opp j)) (rounds (has j c)) ∅ 0 ∗ (∃ f, landPts (opp j) c f) ∗ outPts c (received m ρ j c o)) -∗ Wp c rest Q))
      ⊢ Wp c (recvStep j c rest) Q := by
  unfold recvStep rounds received
  by_cases h : waitCond j c = 1#1
  · rw [dif_pos h]
    have h' := (waitCond_iff j c).mp h
    have h'' : has (opp (opp j)) c = true := by rw [opp_opp, h']
    rw [if_pos h', if_pos h', given_true h']
    iintro ⟨#HR, ⟨%W, HO⟩, Hc, Hat, -, Ho, Hk⟩
    iapply (Rounds.wp_wait_rest_token 𝒱₀ ER (xchg m ρ) (c : Thread nD τ) none (κ := K (c, arrI (opp j)))
        (wpE_waitDma2_eq 𝒱₀ (c : Thread nD τ) none Set.univ) (Set.mem_univ _) () (O := 0) (W := W) (R := 0) (m := 0) (T := ∅)
        (by rw [Nat.zero_add, expect_arr m ρ c (opp j) h'']; rfl)) $$ [Hc HO Hat]
    · isplitr; · iapply (inv_at m ρ K (c, arrI (opp j))); iexact HR
      isplitl [Hc]; · iexact Hc
      isplitl [HO]; · iexact HO
      isplitr; · rw [MayWait_zero]; iempintro
      iexact Hat
    iintro ⟨HO, Hat, -, Hp⟩
    ihave Hp := (Entails.of_eq (rest_arr m ρ c (opp j) h'')) $$ Hp
    unfold arrPay
    icases Hp with ⟨%f, Hp⟩
    iapply (wp_loadO c Q (face j) o (face_loads j))
    isplitl [Ho]; · iexact Ho
    iintro Ho
    iapply (wp_loadLanded m ρ c Q j (nbr (opp (opp j)) c) (by rw [opp_opp]) f (bface_loads j))
    isplitl [Hp]; · iexact Hp
    iintro Hp
    iapply (wp_loadO c Q (face j) o (face_loads j))
    isplitl [Ho]; · iexact Ho
    iintro Ho
    iapply (wp_storeO c Q rest (face j) o _ (face_stores j))
    isplitl [Ho]; · iexact Ho
    iintro Ho
    iapply Hk
    isplitl [HO]; · iexists _; iexact HO
    isplitl [Hat]; · iexact Hat
    isplitl [Hp]; · iexact Hp
    iexact Ho
  · rw [dif_neg h]
    have h' := (not_congr (waitCond_iff j c)).mp h
    rw [if_neg h', if_neg h', given_true (b := !has j c) (by rw [Bool.not_eq_true] at h'; rw [h']; rfl)]
    iintro ⟨#HR, HO, -, Hat, Hl, Ho, Hk⟩
    iapply Hk
    isplitl [HO]; · iexact HO
    isplitl [Hat]; · iexact Hat
    isplitl [Hl]; · iexact Hl
    iexact Ho

end Cert.Halo

end
-- ==== Proof.Body.lean ====
/-
# The kernel on one device

The five parts of the kernel run from what the launch deals a device: its cells' positions, the duties it pays, its
buffers. At the end it has its buffers back, its counters at zero and, in the result's block, the computed contents.
-/
module

public import proofs.«01_k».proof.Proof.StepRules

@[expose] public section

noncomputable section

namespace Cert.Halo

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-! ## One step in each direction -/

/-- `Φ` for each direction of a list. -/
def each (Φ : Dir → sProp 𝕄) : List Dir → sProp 𝕄
  | [] => iprop(emp)
  | k :: ks => iprop(Φ k ∗ each Φ ks)

omit [FloatOps F] in
/-- A conjunction over the directions, written out. -/
theorem each_dirs (Φ : Dir → sProp 𝕄) : bigSep Finset.univ Φ ⊣⊢ each Φ dirs := by
  rw [bigSep_univ_eq_bigSepL [0, 1, 2, 3, 4, 5] (by decide) (by decide)]
  constructor
  · show iprop(Φ 0 ∗ Φ 1 ∗ Φ 2 ∗ Φ 3 ∗ Φ 4 ∗ Φ 5) ⊢ iprop(Φ 0 ∗ Φ 1 ∗ Φ 2 ∗ Φ 3 ∗ Φ 4 ∗ Φ 5 ∗ emp)
    iintro ⟨H0, H1, H2, H3, H4, H5⟩
    isplitl [H0]; · iexact H0
    isplitl [H1]; · iexact H1
    isplitl [H2]; · iexact H2
    isplitl [H3]; · iexact H3
    isplitl [H4]; · iexact H4
    isplitl [H5]; · iexact H5
    iempintro
  · show iprop(Φ 0 ∗ Φ 1 ∗ Φ 2 ∗ Φ 3 ∗ Φ 4 ∗ Φ 5 ∗ emp) ⊢ iprop(Φ 0 ∗ Φ 1 ∗ Φ 2 ∗ Φ 3 ∗ Φ 4 ∗ Φ 5)
    iintro ⟨H0, H1, H2, H3, H4, H5, -⟩
    isplitl [H0]; · iexact H0
    isplitl [H1]; · iexact H1
    isplitl [H2]; · iexact H2
    isplitl [H3]; · iexact H3
    isplitl [H4] <;> iassumption

variable {α : Type} (c : Dev nD) (Q : α → sProp (MT nD τ sig Unit (Elt F) ℕ UU ℕ))

/-- Steps taken in a list of directions, each keeping an invariant of the directions left and a state, and turning
    what it needs in its direction into what it leaves there. -/
theorem wp_each {S : Type} (R : sProp 𝕄) [BI.Persistent R] (I : List Dir → S → sProp 𝕄) (f : S → Dir → S)
    (Pre Post : Dir → sProp 𝕄) (step : Dir → P F α → P F α)
    (hstep : ∀ k ks s rest, iprop(R ∗ I (k :: ks) s ∗ Pre k ∗ ((I ks (f s k) ∗ Post k) -∗ Wp c rest Q)) ⊢ Wp c (step k rest) Q)
    (rest : P F α) : ∀ (ks : List Dir) (s : S),
      iprop(R ∗ I ks s ∗ each Pre ks ∗ ((I [] (ks.foldl f s) ∗ each Post ks) -∗ Wp c rest Q)) ⊢ Wp c (ks.foldr step rest) Q
  | [], s => by
    unfold each; rw [List.foldl_nil]
    iintro ⟨#HR, HI, -, Hk⟩
    iapply Hk
    isplitl [HI]; · iexact HI
    iempintro
  | k :: ks, s => by
    rw [List.foldl_cons]
    iintro ⟨#HR, HI, Hp, Hk⟩
    ihave Hp := (Entails.of_eq (show each Pre (k :: ks) = iprop(Pre k ∗ each Pre ks) from rfl)) $$ Hp
    icases Hp with ⟨Hp, Hps⟩
    iapply (hstep k ks s)
    isplitr; · iexact HR
    isplitl [HI]; · iexact HI
    isplitl [Hp]; · iexact Hp
    iintro ⟨HI, Hq⟩
    iapply (wp_each R I f Pre Post step hstep rest ks (f s k))
    isplitr; · iexact HR
    isplitl [HI]; · iexact HI
    isplitl [Hps]; · iexact Hps
    iintro ⟨HI, Hqs⟩
    iapply Hk
    isplitl [HI]; · iexact HI
    iapply (Entails.of_eq (show iprop(Post k ∗ each Post ks) = each Post (k :: ks) from rfl))
    isplitl [Hq] <;> iassumption

/-- The same for all six directions. -/
theorem wp_all {S : Type} (R : sProp 𝕄) [BI.Persistent R] (I : List Dir → S → sProp 𝕄) (f : S → Dir → S)
    (Pre Post : Dir → sProp 𝕄) (step : Dir → P F α → P F α)
    (hstep : ∀ k ks s rest, iprop(R ∗ I (k :: ks) s ∗ Pre k ∗ ((I ks (f s k) ∗ Post k) -∗ Wp c rest Q)) ⊢ Wp c (step k rest) Q)
    (rest : P F α) (s : S) :
      iprop(R ∗ I dirs s ∗ bigSep Finset.univ Pre ∗ ((I [] (dirs.foldl f s) ∗ bigSep Finset.univ Post) -∗ Wp c rest Q))
      ⊢ Wp c (step 0 (step 1 (step 2 (step 3 (step 4 (step 5 rest)))))) Q := by
  rw [show step 0 (step 1 (step 2 (step 3 (step 4 (step 5 rest))))) = dirs.foldr step rest from rfl]
  iintro ⟨#HR, HI, Hp, Hk⟩
  iapply (wp_each c Q R I f Pre Post step hstep rest dirs s)
  isplitr; · iexact HR
  isplitl [HI]; · iexact HI
  isplitl [Hp]; · iapply (each_dirs Pre).1; iexact Hp
  iintro ⟨HI, Hq⟩
  iapply Hk
  isplitl [HI]; · iexact HI
  iapply (each_dirs Post).2; iexact Hq

/-! ## The buffers -/

/-- The whole buffer direction `k`'s faces land in. -/
def areaPts (k : Dir) (c : Dev nD) : sProp 𝕄 := iprop(∃ f, (land k).view.loc (c : Thread nD τ) ↦{fullShare} f)
/-- The part of it outside the landing place. -/
def asidePts (k : Dir) (c : Dev nD) : sProp 𝕄 :=
  iprop(∃ f, (land k).view.loc (c : Thread nD τ) ↦[Finset.univ \ (land k).view.set]{fullShare} f)

/-- A receive buffer splits into the face that lands and the rest. -/
theorem area_split (k : Dir) : areaPts (F := F) k c ⊢ iprop((∃ f, landPts k c f) ∗ asidePts k c) := by
  unfold areaPts landPts asidePts
  iintro ⟨%f, H⟩
  ihave H := (pointsTo_split_subset (Finset.subset_univ (land k).view.set)).1 $$ H
  icases H with ⟨H, H'⟩
  isplitl [H]
  · iexists f; iexact H
  · iexists f; iexact H'

/-- The face that landed and the rest make up the receive buffer. -/
theorem area_join (k : Dir) : iprop((∃ f, landPts k c f) ∗ asidePts k c) ⊢ areaPts (F := F) k c := by
  unfold areaPts landPts asidePts
  iintro ⟨⟨%f, H⟩, ⟨%g, H'⟩⟩
  iexists _
  iapply (pointsTo_join_subset (Finset.subset_univ (land k).view.set))
  isplitl [H] <;> iassumption

/-- The input block at a share, what direction `k`'s transfer reads of it and the rest. -/
def blkPts (q : PosShare TreeShare) (c : Dev nD) : sProp 𝕄 := ((c : Thread nD τ).loc cc0_stg0_0) ↦{q} ublk m ρ c
def blkAside (k : Dir) (c : Dev nD) : sProp 𝕄 := match k with
  | 0 => ((c : Thread nD τ).loc cc0_stg0_0) ↦[Finset.univ \ (src 0).view.set]{srcQ 0} ublk m ρ c
  | 1 => ((c : Thread nD τ).loc cc0_stg0_0) ↦[Finset.univ \ (src 1).view.set]{srcQ 1} ublk m ρ c
  | 2 => ((c : Thread nD τ).loc cc0_stg0_0) ↦[Finset.univ \ (src 2).view.set]{srcQ 2} ublk m ρ c
  | 3 => ((c : Thread nD τ).loc cc0_stg0_0) ↦[Finset.univ \ (src 3).view.set]{srcQ 3} ublk m ρ c
  | 4 => iprop(emp)
  | 5 => iprop(emp)

/-- A share of the input contains the same share of the face that is sent from it. -/
theorem src_split (k : Dir) (h : k.val < 4) (q : PosShare TreeShare) (hq : q = srcQ k) : blkPts m ρ q c ⊣⊢ iprop(srcPts m ρ k c ∗ blkAside m ρ k c) := by
  subst hq
  match k, h with
  | 0, _ => exact pointsTo_split_subset (Finset.subset_univ _)
  | 1, _ => exact pointsTo_split_subset (Finset.subset_univ _)
  | 2, _ => exact pointsTo_split_subset (Finset.subset_univ _)
  | 3, _ => exact pointsTo_split_subset (Finset.subset_univ _)

/-- A share of the block is its two halves. -/
theorem blk_halves (q : PosShare TreeShare) : blkPts m ρ q c ⊣⊢ iprop(blkPts m ρ q.left c ∗ blkPts m ρ q.right c) :=
  pointsTo_share (PosShare.mem_left_op_right q)

/-- The block is the kernel's own half, and for each of the four transfers that read it what they read and the rest. -/
theorem blk_split : blkPts m ρ fullShare c ⊢ iprop(inPts m ρ c ∗ (srcPts m ρ 0 c ∗ srcPts m ρ 1 c ∗ srcPts m ρ 2 c ∗ srcPts m ρ 3 c)
    ∗ (blkAside m ρ 0 c ∗ blkAside m ρ 1 c ∗ blkAside m ρ 2 c ∗ blkAside m ρ 3 c)) := by
  iintro H
  ihave H := (blk_halves m ρ c _).1 $$ H
  icases H with ⟨HL, H⟩
  ihave HL := (Entails.of_eq (show blkPts m ρ fullShare.left c = inPts m ρ c from rfl)) $$ HL
  ihave H := (blk_halves m ρ c _).1 $$ H
  icases H with ⟨H01, H23⟩
  ihave H01 := (blk_halves m ρ c _).1 $$ H01
  icases H01 with ⟨H0, H1⟩
  ihave H23 := (blk_halves m ρ c _).1 $$ H23
  icases H23 with ⟨H2, H3⟩
  ihave H0 := (src_split m ρ c 0 (by decide) fullShare.right.left.left rfl).1 $$ H0
  ihave H1 := (src_split m ρ c 1 (by decide) fullShare.right.left.right rfl).1 $$ H1
  ihave H2 := (src_split m ρ c 2 (by decide) fullShare.right.right.left rfl).1 $$ H2
  ihave H3 := (src_split m ρ c 3 (by decide) fullShare.right.right.right rfl).1 $$ H3
  icases H0 with ⟨H0, A0⟩
  icases H1 with ⟨H1, A1⟩
  icases H2 with ⟨H2, A2⟩
  icases H3 with ⟨H3, A3⟩
  isplitl [HL]; · iexact HL
  isplitl [H0 H1 H2 H3]
  · isplitl [H0]; · iexact H0
    isplitl [H1]; · iexact H1
    isplitl [H2] <;> iassumption
  · isplitl [A0]; · iexact A0
    isplitl [A1]; · iexact A1
    isplitl [A2] <;> iassumption

/-- The shares of the input that the copies hold give back the whole of it. -/
theorem blk_join : iprop(inPts m ρ c ∗ (srcPts m ρ 0 c ∗ srcPts m ρ 1 c ∗ srcPts m ρ 2 c ∗ srcPts m ρ 3 c)
    ∗ (blkAside m ρ 0 c ∗ blkAside m ρ 1 c ∗ blkAside m ρ 2 c ∗ blkAside m ρ 3 c)) ⊢ blkPts m ρ fullShare c := by
  iintro ⟨HL, ⟨H0, H1, H2, H3⟩, A0, A1, A2, A3⟩
  ihave HL := (Entails.of_eq (show inPts m ρ c = blkPts m ρ fullShare.left c from rfl)) $$ HL
  iapply (blk_halves m ρ c _).2
  isplitl [HL]; · iexact HL
  iapply (blk_halves m ρ c _).2
  isplitl [H0 H1 A0 A1]
  · iapply (blk_halves m ρ c _).2
    isplitl [H0 A0]
    · iapply (src_split m ρ c 0 (by decide) _ rfl).2; isplitl [H0] <;> iassumption
    · iapply (src_split m ρ c 1 (by decide) _ rfl).2; isplitl [H1] <;> iassumption
  · iapply (blk_halves m ρ c _).2
    isplitl [H2 A2]
    · iapply (src_split m ρ c 2 (by decide) _ rfl).2; isplitl [H2] <;> iassumption
    · iapply (src_split m ρ c 3 (by decide) _ rfl).2; isplitl [H3] <;> iassumption

end Cert.Halo

end
-- ==== Proof.Run.lean ====
/-
# The run of the kernel's body

The five parts in order, from what a device starts with to what it ends with.
-/
module

public import proofs.«01_k».proof.Proof.Body

@[expose] public section

noncomputable section

namespace Cert.Halo

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

variable {α : Type} (c : Dev nD)

/-! ## The contents of the result's block -/

/-- The result after the sums inside the block. -/
def inner (c : Dev nD) : (cc0_stg1_0 : Ref sig .tc).ty.Contents (Elt F) :=
  added m ρ rZlo rZhi k0_pay10 c <| added m ρ rZhi rZlo k0_pay9 c <| added m ρ rYlo rYhi k0_pay8 c <|
  added m ρ rYhi rYlo k0_pay7 c <| added m ρ rXlo rXhi k0_pay6 c <| added m ρ rXhi rXlo k0_pay5 c <| k0_pay4 (ublk m ρ c)

/-- The result at the end: the landed faces added, the boundary zeroed. -/
def outAt (c : Dev nD) : (cc0_stg1_0 : Ref sig .tc).ty.Contents (Elt F) :=
  dirs.foldl (fun o j => zeroed j c o) (dirs.foldl (fun o j => received m ρ j c o) (inner m ρ c))

/-! ## The parts -/

/-- The low face of the third axis, as the first part reads it. -/
abbrev lowFace (c : Dev nD) : FVec F S64x64 .f32 := k0_pay1 (uM.view.readAt (Elt F) rZ0.toLoadRect (ublk m ρ c))

/-- What a signal needs and leaves, -/
def sigPre (k : Dir) : sProp 𝕄 := iprop(dutyTok ER (barCell (nbr k c)) 0 (opp k) ∗ ∃ f, landPts (F := F) (opp k) c f)
def sigPost (k : Dir) : sProp 𝕄 := given (!has k c) iprop(∃ f, landPts (F := F) (opp k) c f)
/-- what a transfer needs and leaves, -/
def sendPre (k : Dir) : sProp 𝕄 := iprop(given (has k c) (barPay (F := F) k c) ∗ srcPts m ρ k c ∗ dutyTok ER (sendCell c k) 0 k ∗ dutyTok ER (arrCell (nbr k c) k) 0 k)
/-- what the wait for a landed face needs and leaves, -/
def recvPre (j : Dir) : sProp 𝕄 :=
  iprop(given (has j c) iprop(cred (tallyAt (arrCell c (opp j)) () (cnt (opp j)))) ∗ atPos ER (arrCell c (opp j)) 0 ∅ 0 ∗ sigPost (F := F) c j)
def recvPost (j : Dir) : sProp 𝕄 := iprop(atPos ER (arrCell c (opp j)) (rounds (has j c)) ∅ 0 ∗ ∃ f, landPts (F := F) (opp j) c f)
/-- and the wait for a face sent. -/
def sentPre (k : Dir) : sProp 𝕄 := iprop(sentSt m ρ k c ∗ atPos ER (sendCell c k) 0 ∅ 0)
def sentPost (k : Dir) : sProp 𝕄 := iprop(srcPts m ρ k c ∗ atPos ER (sendCell c k) (rounds (has k c)) ∅ 0)

/-- The first part: the six signals. -/
theorem wp_part1 (Q : Head F → sProp 𝕄) :
    iprop(records m ρ K ∗ Owes c (O₀ c) ∗ bigSep Finset.univ (sigPre (F := F) c)
        ∗ inPts m ρ c
        ∗ ((Owes c (O₁ c) ∗ bigSep Finset.univ (sigPost (F := F) c) ∗ inPts m ρ c)
            -∗ Q (head c (lowFace m ρ c))))
      ⊢ Wp c part1 Q := by
  unfold part1
  rw [Wp, wp_deviceId]
  iintro ⟨#HR, HO, Ht, Hu, Hk⟩
  iapply (wp_all c Q (records m ρ K) (fun ks (_ : Unit) => Owes c (plus (owedSig c) (O₁ c) ks)) (fun s _ => s) (sigPre c) (sigPost c)
    (fun k p => sigStep k c p) (fun k ks _ rest => by
      unfold sigPre sigPost
      iintro ⟨#HR, HO, ⟨Ht, Hl⟩, Hk⟩
      iapply (wp_sigStep m ρ K c Q rest k (O₁ c) ks)
      isplitr; · iexact HR
      isplitl [HO]; · iexact HO
      isplitl [Ht]; · iexact Ht
      isplitl [Hl]; · iexact Hl
      iexact Hk) _ ())
  isplitr; · iexact HR
  isplitl [HO]; · iexact HO
  isplitl [Ht]; · iexact Ht
  iintro ⟨HO, Hl⟩
  iapply (wp_loadU m ρ c Q rZ0)
  isplitl [Hu]; · iexact Hu
  iintro Hu
  rw [Wp, wp_ret]; imodintro
  iapply Hk
  isplitl [HO]; · iexact HO
  isplitl [Hl]; · iexact Hl
  iexact Hu

/-- A copied face is all of its buffer. -/
theorem srcPts_lo : srcPts m ρ 4 c = (((c : Thread nD τ).loc cc0_scratch0) ↦{fullShare} k0_pay2 (lowFace m ρ c) : sProp 𝕄) :=
  congrArg (fun S => (((c : Thread nD τ).loc cc0_scratch0) ↦[S]{fullShare} k0_pay2 (lowFace m ρ c) : sProp 𝕄)) (View.set_whole cc0_scratch0)
/-- The high face of the third axis. -/
abbrev highFace (c : Dev nD) : FVec F S64x64 .f32 := k0_pay3 (uM.view.readAt (Elt F) rZ1.toLoadRect (ublk m ρ c))
/-- The upper packed face is sent from its scratch array. -/
theorem srcPts_hi : srcPts m ρ 5 c = (((c : Thread nD τ).loc cc0_scratch1) ↦{fullShare} highFace m ρ c : sProp 𝕄) :=
  congrArg (fun S => (((c : Thread nD τ).loc cc0_scratch1) ↦[S]{fullShare} highFace m ρ c : sProp 𝕄)) (View.set_whole cc0_scratch1)

/-! A load or store of all of a buffer is of its contents. -/

/-- The zero offset in three axes. -/
theorem zero3 : (![0, 0, 0] : Fin 3 → Nat) = fun _ => 0 := funext fun a => by fin_cases a <;> rfl
/-- Storing the lower packed face replaces its scratch array. -/
theorem write_lo (f w : (cc0_scratch0 : Ref sig .tc).ty.Contents (Elt F)) : (loM.access rP).write (Elt F) f w Finset.univ = w :=
  Memref.write_access_unit_zero_univ (Elt F) cc0_scratch0 zero2 _ f w
/-- Storing the upper packed face replaces its scratch array. -/
theorem write_hi (f w : (cc0_scratch1 : Ref sig .tc).ty.Contents (Elt F)) : (hiM.access rP).write (Elt F) f w Finset.univ = w :=
  Memref.write_access_unit_zero_univ (Elt F) cc0_scratch1 zero2 _ f w
/-- Storing over the whole of the output replaces it. -/
theorem stored_all (o w : (cc0_stg1_0 : Ref sig .tc).ty.Contents (Elt F)) : stored rW o w = w :=
  Memref.write_access_unit_zero_univ (Elt F) cc0_stg1_0 zero3 _ o w
/-- Loading the whole of the input gives its contents. -/
theorem read_blk (f : (cc0_stg0_0 : Ref sig .tc).ty.Contents (Elt F)) : uM.view.readAt (Elt F) rW.toLoadRect f = f :=
  Memref.readAt_unit_zero (Elt F) cc0_stg0_0 zero3 _ f

/-- The second part: the faces of the third axis copied, the barrier, the six transfers, the result started. -/
theorem wp_part2 (Q : PUnit → sProp 𝕄) :
    iprop(records m ρ K ∗ levAts L lv ∗ Owes c (O₁ c) ∗ cred (tallyAt (barCell c) () (deg c)) ∗ atPos ER (barCell c) 0 ∅ 0
        ∗ (∃ f, ((c : Thread nD τ).loc cc0_scratch0) ↦{fullShare} f) ∗ (∃ f, ((c : Thread nD τ).loc cc0_scratch1) ↦{fullShare} f)
        ∗ (srcPts m ρ 0 c ∗ srcPts m ρ 1 c ∗ srcPts m ρ 2 c ∗ srcPts m ρ 3 c)
        ∗ (bigSep Finset.univ fun k : Dir => dutyTok ER (sendCell c k) 0 k) ∗ (bigSep Finset.univ fun k : Dir => dutyTok ER (arrCell (nbr k c) k) 0 k)
        ∗ inPts m ρ c ∗ (∃ o, outPts c o)
        ∗ ((Owes c 0 ∗ atPos ER (barCell c) 1 ∅ 0 ∗ bigSep Finset.univ (fun k => sentSt m ρ k c) ∗ inPts m ρ c ∗ outPts c (k0_pay4 (ublk m ρ c)))
            -∗ Q ⟨⟩))
      ⊢ Wp c (part2 c (lowFace m ρ c)) Q := by
  unfold part2
  iintro ⟨#HR, #Hl, HO, Hc, Hat, ⟨%f, Hlo⟩, ⟨%g, Hhi⟩, ⟨H0, H1, H2, H3⟩, Ht, Ht', Hu, ⟨%o, Ho⟩, Hk⟩
  iapply (wp_load 𝒱₀ (c : Thread nD τ) none Set.univ (m := loM) (Finset.subset_univ _)) $$ Hlo; iintro Hlo
  iapply (wp_store 𝒱₀ (c : Thread nD τ) none Set.univ (m := loM) (r := rP) (Mk := Finset.univ) (Finset.subset_univ _)) $$ Hlo; iintro Hlo
  iapply (wp_loadU m ρ c Q rZ1)
  isplitl [Hu]; · iexact Hu
  iintro Hu
  iapply (wp_load 𝒱₀ (c : Thread nD τ) none Set.univ (m := hiM) (Finset.subset_univ _)) $$ Hhi; iintro Hhi
  iapply (wp_store 𝒱₀ (c : Thread nD τ) none Set.univ (m := hiM) (r := rP) (Mk := Finset.univ) (Finset.subset_univ _)) $$ Hhi; iintro Hhi
  rw [write_lo, write_hi]
  ihave H4 := (Entails.of_eq (srcPts_lo m ρ c).symm) $$ Hlo
  ihave H5 := (Entails.of_eq (srcPts_hi m ρ c).symm) $$ Hhi
  iapply (wp_barStep m ρ K c Q)
  isplitr; · iexact HR
  isplitr; · iexact Hl
  isplitl [HO]; · iexact HO
  isplitl [Hc]; · iexact Hc
  isplitl [Hat]; · iexact Hat
  iintro ⟨HO, Hat, Hb⟩
  iapply (wp_all c Q (records m ρ K) (fun ks (_ : Unit) => Owes c (plus (owedSend c) 0 ks)) (fun s _ => s) (sendPre m ρ c) (fun k => sentSt m ρ k c)
    (fun k p => sendStep k c p) (fun k ks _ rest => by
      unfold sendPre
      iintro ⟨#HR, HO, ⟨Hb, Hs, Ht, Ht'⟩, Hk⟩
      iapply (wp_sendStep m ρ K c Q rest k 0 ks)
      isplitr; · iexact HR
      isplitl [HO]; · iexact HO
      isplitl [Hb]; · iexact Hb
      isplitl [Hs]; · iexact Hs
      isplitl [Ht]; · iexact Ht
      isplitl [Ht']; · iexact Ht'
      iexact Hk) _ ())
  isplitr; · iexact HR
  isplitl [HO]; · iexact HO
  isplitl [Hb H0 H1 H2 H3 H4 H5 Ht Ht']
  · unfold sendPre
    rw [bigSep_sep', bigSep_sep', bigSep_sep']
    isplitl [Hb]; · iexact Hb
    isplitl [H0 H1 H2 H3 H4 H5]
    · iapply (each_dirs (fun k => srcPts m ρ k c)).2
      iapply (show iprop(srcPts m ρ 0 c ∗ srcPts m ρ 1 c ∗ srcPts m ρ 2 c ∗ srcPts m ρ 3 c ∗ srcPts m ρ 4 c ∗ srcPts m ρ 5 c ∗ emp)
        ⊢ each (fun k => srcPts m ρ k c) dirs from BI.Entails.refl _)
      isplitl [H0]; · iexact H0
      isplitl [H1]; · iexact H1
      isplitl [H2]; · iexact H2
      isplitl [H3]; · iexact H3
      isplitl [H4]; · iexact H4
      isplitl [H5]; · iexact H5
      iempintro
    isplitl [Ht] <;> iassumption
  iintro ⟨HO, Hs⟩
  iapply (wp_loadU m ρ c Q rW)
  isplitl [Hu]; · iexact Hu
  iintro Hu
  iapply (wp_loadO c Q rW o)
  isplitl [Ho]; · iexact Ho
  iintro Ho
  iapply (wp_storeO c Q _ rW o)
  isplitl [Ho]; · iexact Ho
  iintro Ho
  rw [Wp, wp_ret]; imodintro
  iapply Hk
  isplitl [HO]; · iexact HO
  isplitl [Hat]; · iexact Hat
  isplitl [Hs]; · iexact Hs
  isplitl [Hu]; · iexact Hu
  rw [stored_all, read_blk]
  iexact Ho

/-- The third part: the first sums inside the block. -/
theorem wp_part3 (o : (cc0_stg1_0 : Ref sig .tc).ty.Contents (Elt F)) (Q : FVec F S64x63x64 .f32 → sProp 𝕄) :
    iprop(inPts m ρ c ∗ outPts c o
        ∗ (∀ o', (⌜o' = added m ρ rYhi rYlo k0_pay7 c (added m ρ rXlo rXhi k0_pay6 c (added m ρ rXhi rXlo k0_pay5 c o))⌝ ∗ inPts m ρ c ∗ outPts c o')
            -∗ Q (k0_pay8 (loaded rYlo o') (uM.view.readAt (Elt F) rYhi.toLoadRect (ublk m ρ c)))))
      ⊢ Wp c part3 Q := by
  unfold part3
  iintro ⟨Hu, Ho, Hk⟩
  iapply (wp_addStep m ρ c Q _ rXhi rXlo)
  isplitl [Hu]; · iexact Hu
  isplitl [Ho]; · iexact Ho
  iintro ⟨Hu, Ho⟩
  iapply (wp_addStep m ρ c Q _ rXlo rXhi)
  isplitl [Hu]; · iexact Hu
  isplitl [Ho]; · iexact Ho
  iintro ⟨Hu, Ho⟩
  iapply (wp_addStep m ρ c Q _ rYhi rYlo)
  isplitl [Hu]; · iexact Hu
  isplitl [Ho]; · iexact Ho
  iintro ⟨Hu, Ho⟩
  iapply (wp_loadO c Q rYlo)
  isplitl [Ho]; · iexact Ho
  iintro Ho
  iapply (wp_loadU m ρ c Q rYhi)
  isplitl [Hu]; · iexact Hu
  iintro Hu
  rw [Wp, wp_ret]; imodintro
  iapply Hk
  isplitr; · ipureintro; rfl
  isplitl [Hu] <;> iassumption

/-- The fourth part: the other sums inside the block, then the landed faces. -/
theorem wp_part4 (o : (cc0_stg1_0 : Ref sig .tc).ty.Contents (Elt F)) (Q : PUnit → sProp 𝕄) :
    iprop(records m ρ K ∗ Owes c 0 ∗ bigSep Finset.univ (recvPre (F := F) c) ∗ inPts m ρ c ∗ outPts c o
        ∗ ((Owes c 0 ∗ bigSep Finset.univ (recvPost (F := F) c) ∗ inPts m ρ c
            ∗ outPts c (dirs.foldl (fun o j => received m ρ j c o)
                (added m ρ rZlo rZhi k0_pay10 c <| added m ρ rZhi rZlo k0_pay9 c <| added m ρ rYlo rYhi k0_pay8 c o))) -∗ Q ⟨⟩))
      ⊢ Wp c (part4 c (k0_pay8 (loaded rYlo o) (uM.view.readAt (Elt F) rYhi.toLoadRect (ublk m ρ c)))) Q := by
  unfold part4
  iintro ⟨#HR, HO, Hp, Hu, Ho, Hk⟩
  iapply (wp_loadO c Q rYlo o)
  isplitl [Ho]; · iexact Ho
  iintro Ho
  iapply (wp_storeO c Q _ rYlo o)
  isplitl [Ho]; · iexact Ho
  iintro Ho
  iapply (wp_addStep m ρ c Q _ rZhi rZlo)
  isplitl [Hu]; · iexact Hu
  isplitl [Ho]; · iexact Ho
  iintro ⟨Hu, Ho⟩
  iapply (wp_addStep m ρ c Q _ rZlo rZhi)
  isplitl [Hu]; · iexact Hu
  isplitl [Ho]; · iexact Ho
  iintro ⟨Hu, Ho⟩
  iapply (wp_all c Q (records m ρ K) (fun _ o => iprop(Owes c 0 ∗ outPts c o)) (fun o j => received m ρ j c o) (recvPre c) (recvPost c)
    (fun k p => recvStep k c p) (fun k ks o rest => by
      unfold recvPre recvPost sigPost
      iintro ⟨#HR, ⟨HO, Ho⟩, ⟨Hc, Hat, Hl⟩, Hk⟩
      iapply (wp_recvStep m ρ K c Q rest k o)
      isplitr; · iexact HR
      isplitl [HO]; · iexact HO
      isplitl [Hc]; · iexact Hc
      isplitl [Hat]; · iexact Hat
      isplitl [Hl]; · iexact Hl
      isplitl [Ho]; · iexact Ho
      iintro ⟨HO, Hat, Hl, Ho⟩
      iapply Hk
      isplitl [HO Ho]
      · isplitl [HO] <;> iassumption
      isplitl [Hat] <;> iassumption) _ _)
  isplitr; · iexact HR
  isplitl [HO Ho]
  · isplitl [HO]; · iexact HO
    iexact Ho
  isplitl [Hp]; · iexact Hp
  iintro ⟨⟨HO, Ho⟩, Hp⟩
  rw [Wp, wp_ret]; imodintro
  iapply Hk
  isplitl [HO]; · iexact HO
  isplitl [Hp]; · iexact Hp
  isplitl [Hu]; · iexact Hu
  iexact Ho

/-- The fifth part: the boundary, then the sources back. -/
theorem wp_part5 (o : (cc0_stg1_0 : Ref sig .tc).ty.Contents (Elt F)) (Q : PUnit → sProp 𝕄) :
    iprop(records m ρ K ∗ Owes c 0 ∗ bigSep Finset.univ (sentPre m ρ c) ∗ outPts c o
        ∗ ((Owes c 0 ∗ bigSep Finset.univ (sentPost m ρ c) ∗ outPts c (dirs.foldl (fun o j => zeroed j c o) o)) -∗ Q ⟨⟩))
      ⊢ Wp c (part5 c) Q := by
  unfold part5
  iintro ⟨#HR, HO, Hp, Ho, Hk⟩
  iapply (wp_all c Q (records m ρ K) (fun _ o => outPts c o) (fun o j => zeroed j c o) (fun _ => iprop(emp)) (fun _ => iprop(emp))
    (fun k p => zeroStep k c p) (fun k ks o rest => by
      iintro ⟨-, Ho, -, Hk⟩
      iapply (wp_zeroStep c Q rest k o)
      isplitl [Ho]; · iexact Ho
      iintro Ho
      iapply Hk
      isplitl [Ho]; · iexact Ho
      iempintro) _ _)
  isplitr; · iexact HR
  isplitl [Ho]; · iexact Ho
  isplitr
  · iapply (Entails.of_eq (bigSep_emp_const (M := 𝕄) (Finset.univ : Finset Dir)).symm)
    iempintro
  iintro ⟨Ho, -⟩
  iapply (wp_all c Q (records m ρ K) (fun _ (_ : Unit) => Owes c 0) (fun s _ => s) (sentPre m ρ c) (sentPost m ρ c)
    (fun k p => sentStep k c p) (fun k ks _ rest => by
      unfold sentPre sentPost
      iintro ⟨#HR, HO, ⟨Hs, Hat⟩, Hk⟩
      iapply (wp_sentStep m ρ K c Q rest k)
      isplitr; · iexact HR
      isplitl [HO]; · iexact HO
      isplitl [Hs]; · iexact Hs
      isplitl [Hat]; · iexact Hat
      iintro ⟨HO, Hs, Hat⟩
      iapply Hk
      isplitl [HO]; · iexact HO
      isplitl [Hs] <;> iassumption) _ ())
  isplitr; · iexact HR
  isplitl [HO]; · iexact HO
  isplitl [Hp]; · iexact Hp
  iintro ⟨HO, Hp⟩
  rw [Wp, wp_ret]; imodintro
  iapply Hk
  isplitl [HO]; · iexact HO
  isplitl [Hp]; · iexact Hp
  iexact Ho

end Cert.Halo

end
-- ==== Proof.BlockValue.lean ====
/-
# What a device's result holds, entry by entry

Position `i` of a block lies on face `j` if it is the block's first or last along the axis of direction `j`. One step in
direction `j`, the axis closed to a ring, goes to the neighbouring position: of the same block, or across the face,
of the neighbour's block. The sum inside the block, the landed faces and the zeroed boundary are each said through these.
-/
module

public import proofs.«01_k».proof.Proof.Run
public import Idealize.ShloMosaic.Lib.WritesUnit
public import Idealize.ShloMosaic.Lib.Pipeline.Value
public import Idealize.ShloMosaic.Lib.Pointwise

@[expose] public section

noncomputable section

namespace Cert.Halo

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A block's contents. -/
abbrev Blk (F : FTy → Type) : Type := S64x64x64.Idx → F .f32

/-! ## Faces and steps -/

/-- The axis of a direction, -/
def axis : Dir → Fin 3
  | 0 => 0 | 1 => 0 | 2 => 1 | 3 => 1 | 4 => 2 | 5 => 2
/-- the coordinate of its face, -/
def edge : Dir → ℕ
  | 0 => 0 | 1 => 63 | 2 => 0 | 3 => 63 | 4 => 0 | 5 => 63
/-- and what one step adds to it, modulo 64. -/
def stride : Dir → ℕ
  | 0 => 63 | 1 => 1 | 2 => 63 | 3 => 1 | 4 => 63 | 5 => 1

/-- Position `i` lies on face `j`. -/
def OnFace (j : Dir) (i : S64x64x64.Idx) : Prop := (i (axis j)).val = edge j

instance (j : Dir) (i : S64x64x64.Idx) : Decidable (OnFace j i) := inferInstanceAs (Decidable (_ = _))

/-- A block has 64 positions on each axis. -/
theorem size_64 (a : Fin 3) : S64x64x64.size a = 64 := by revert a; decide

/-- The position one step from `i` in direction `j`. -/
def step (j : Dir) (i : S64x64x64.Idx) : S64x64x64.Idx := fun a =>
  ⟨((i a).val + if a = axis j then stride j else 0) % 64, Nat.lt_of_lt_of_eq (Nat.mod_lt _ (by decide)) (size_64 a).symm⟩

/-- The coordinates of a position's neighbour, wrapped within the block. -/
theorem step_val (j : Dir) (i : S64x64x64.Idx) (a : Fin 3) :
    (step j i a).val = ((i a).val + if a = axis j then stride j else 0) % 64 := rfl

/-- A coordinate in a block is below 64. -/
theorem idx_lt (i : S64x64x64.Idx) (a : Fin 3) : (i a).val < 64 := Nat.lt_of_lt_of_eq (i a).isLt (size_64 a)

/-! Statements about three axes, written out. -/

/-- A statement about three axes, axis by axis. -/
theorem forall3 {p : Fin 3 → Prop} : (∀ a, p a) ↔ p 0 ∧ p 1 ∧ p 2 := by simp [Fin.forall_fin_succ]

/-- Lying in a window, written out. -/
theorem inside3 {o0 o1 o2 s0 s1 s2 : ℕ} (i : S64x64x64.Idx) :
    (∀ a, (![o0, o1, o2] : Fin 3 → ℕ) a ≤ (i a).val ∧ (i a).val < (![o0, o1, o2] : Fin 3 → ℕ) a + (![s0, s1, s2] : Fin 3 → ℕ) a)
      ↔ (o0 ≤ (i 0).val ∧ (i 0).val < o0 + s0) ∧ (o1 ≤ (i 1).val ∧ (i 1).val < o1 + s1) ∧ (o2 ≤ (i 2).val ∧ (i 2).val < o2 + s2) := forall3

/-- Going from one window to the same place of another being a step, written out. -/
theorem moved3 {o0 o1 o2 p0 p1 p2 : ℕ} (j : Dir) (i : S64x64x64.Idx) :
    (∀ a, (![p0, p1, p2] : Fin 3 → ℕ) a + ((i a).val - (![o0, o1, o2] : Fin 3 → ℕ) a) = (step j i a).val)
      ↔ p0 + ((i 0).val - o0) = ((i 0).val + if (0 : Fin 3) = axis j then stride j else 0) % 64
        ∧ p1 + ((i 1).val - o1) = ((i 1).val + if (1 : Fin 3) = axis j then stride j else 0) % 64
        ∧ p2 + ((i 2).val - o2) = ((i 2).val + if (2 : Fin 3) = axis j then stride j else 0) % 64 := forall3

/-! ## Stores and loads of windows -/

/-- A store into a window of the result, entry by entry. -/
theorem stored_apply {off size : Fin 3 → ℕ} (inb : ∀ a, off a + size a ≤ S64x64x64.size a) (o : Blk F)
    (w : (Rect.unit (s := S64x64x64) off size inb).shape.Idx → F .f32) (i : S64x64x64.Idx) :
    stored (F := F) (Rect.unit (s := S64x64x64) off size inb) o w i
      = if h : ∀ a, off a ≤ (i a).val ∧ (i a).val < off a + size a then w (Rect.unitLocal (s := S64x64x64) i h) else o i :=
  View.read_writes_cons_unit (Val := Elt F) oM.view o inb w [] i rfl

/-- A store that adds, to what the window held, the entries of a block's window moved by a step in direction `j`. -/
theorem summed_apply {off off' size : Fin 3 → ℕ} (inb : ∀ a, off a + size a ≤ S64x64x64.size a)
    (inb' : ∀ a, off' a + size a ≤ S64x64x64.size a) (o u : Blk F) (w : (Rect.unit (s := S64x64x64) off size inb).shape.Idx → F .f32)
    (hw : ∀ y, w y = FloatOps.addf (loaded (F := F) (Rect.unit (s := S64x64x64) off size inb) o y)
      (u ((Rect.unit (s := S64x64x64) off' size inb').emb y)))
    (j : Dir) (P : Prop) [Decidable P] (i : S64x64x64.Idx)
    (hP : (∀ a, off a ≤ (i a).val ∧ (i a).val < off a + size a) ↔ P)
    (hs : (∀ a, off a ≤ (i a).val ∧ (i a).val < off a + size a) → ∀ a, off' a + ((i a).val - off a) = (step j i a).val) :
    stored (F := F) (Rect.unit (s := S64x64x64) off size inb) o w i = if P then FloatOps.addf (o i) (u (step j i)) else o i := by
  rw [stored_apply]
  by_cases h : ∀ a, off a ≤ (i a).val ∧ (i a).val < off a + size a
  · rw [dif_pos h, if_pos (hP.mp h), hw]
    refine congr (congrArg FloatOps.addf (congrArg o (funext fun a => Fin.ext ?_))) (congrArg u (funext fun a => Fin.ext ?_))
    · show off a + 1 * ((i a).val - off a) = (i a).val
      have := h a; omega
    · show off' a + 1 * ((i a).val - off a) = (step j i a).val
      rw [Nat.one_mul]; exact hs h a
  · rw [dif_neg h, if_neg (fun hp => h (hP.mpr hp))]

/-! ## The sums inside the block -/

/-- The sum inside the block in direction `j`. -/
def addedAt (j : Dir) (c : Dev nD) (o : Blk F) : Blk F :=
  match j with
  | 0 => added m ρ rXhi rXlo k0_pay5 c o
  | 1 => added m ρ rXlo rXhi k0_pay6 c o
  | 2 => added m ρ rYhi rYlo k0_pay7 c o
  | 3 => added m ρ rYlo rYhi k0_pay8 c o
  | 4 => added m ρ rZhi rZlo k0_pay9 c o
  | 5 => added m ρ rZlo rZhi k0_pay10 c o

/-- What the block itself contributes, as a fold over the directions. -/
theorem inner_eq (c : Dev nD) : inner m ρ c = dirs.foldl (fun o j => addedAt m ρ j c o) (k0_pay4 (ublk m ρ c)) := rfl

/-- Where the part of the block begins that is added in direction `j`, and its sizes. -/
def partFrom : Dir → Fin 3 → ℕ
  | 0 => ![0, 0, 0] | 1 => ![1, 0, 0] | 2 => ![0, 0, 0] | 3 => ![0, 1, 0] | 4 => ![0, 0, 0] | 5 => ![0, 0, 1]
def partSize : Dir → Fin 3 → ℕ
  | 0 | 1 => ![63, 64, 64] | 2 | 3 => ![64, 63, 64] | 4 | 5 => ![64, 64, 63]
/-- The part shifted by a direction lies in the block. -/
theorem part_inb (j : Dir) : ∀ a, partFrom j a + partSize j a ≤ S64x64x64.size a := by revert j; decide

/-- The sum inside the block adds, off face `j`, the block's entry one step in direction `j`. -/
theorem addedAt_apply (j : Dir) (c : Dev nD) (o : Blk F) (i : S64x64x64.Idx) :
    addedAt m ρ j c o i = if ¬ OnFace j i then FloatOps.addf (o i) (ublk m ρ c (step j i)) else o i := by
  have h0 := idx_lt i 0; have h1 := idx_lt i 1; have h2 := idx_lt i 2
  match j, part_inb j with
  | 0, hb | 1, hb | 2, hb | 3, hb | 4, hb | 5, hb =>
    refine summed_apply _ hb o (ublk m ρ c) _ (fun y => ?_) _ _ i ((inside3 i).trans ?_) fun h => ?_
    · simp only [k0_pay5, k0_pay6, k0_pay7, k0_pay8, k0_pay9, k0_pay10, shapeCast_self]; rfl
    · simp only [OnFace, axis, edge]; omega
    · have h' := (inside3 i).mp h
      refine (moved3 _ i).mpr ?_
      simp [axis, stride]; omega

/-! ## The landed faces -/

/-- Where face `j` of a block begins, and its sizes. -/
def origin : Dir → Fin 3 → ℕ
  | 0 => ![0, 0, 0] | 1 => ![63, 0, 0] | 2 => ![0, 0, 0] | 3 => ![0, 63, 0] | 4 => ![0, 0, 0] | 5 => ![0, 0, 63]
def extent : Dir → Fin 3 → ℕ
  | 0 | 1 => ![1, 64, 64] | 2 | 3 => ![64, 1, 64] | 4 | 5 => ![64, 64, 1]
/-- The face opposite a direction lies in the block. -/
theorem origin_inb (j : Dir) : ∀ a, origin (opp j) a + extent j a ≤ S64x64x64.size a := by revert j; decide

/-- On face `j` the landed face adds the neighbour's entry one step in direction `j`. -/
theorem received_apply (j : Dir) (c : Dev nD) (o : Blk F) (i : S64x64x64.Idx) (hj : has j c = true) :
    received m ρ j c o i = if OnFace j i then FloatOps.addf (o i) (ublk m ρ (nbr j c) (step j i)) else o i := by
  have h0 := idx_lt i 0; have h1 := idx_lt i 1; have h2 := idx_lt i 2
  unfold received
  rw [if_pos hj]
  match j, origin_inb j with
  | 0, hb | 1, hb | 2, hb | 3, hb | 4, hb | 5, hb =>
    refine summed_apply _ hb o (ublk m ρ (nbr _ c)) _ (fun y => ?_) _ _ i ((inside3 i).trans ?_) fun h => ?_
    · simp only [addFace, got, srcC, k0_pay1, k0_pay2, k0_pay3, k0_pay11, k0_pay12, k0_pay13, k0_pay14, k0_pay15, k0_pay16, shapeCast_self]
      first
      | rfl
      | exact congrArg (FloatOps.addf _) (congrFun (shapeCast_shapeCast (s := S64x64x1) (t := S64x64)
          (fun y => ublk m ρ (nbr _ c) ((Rect.unit (s := S64x64x64) _ _ hb).emb y)) shapeCasts_S64x64x1_S64x64 shapeCasts_S64x64_S64x64x1) y)
    · simp only [OnFace, axis, edge]; omega
    · have h' := (inside3 i).mp h
      refine (moved3 _ i).mpr ?_
      simp [axis, stride]; omega

/-! ## The boundary -/

/-- Where there is no neighbour the face is set to zero. -/
theorem zeroed_apply (j : Dir) (c : Dev nD) (o : Blk F) (i : S64x64x64.Idx) (hj : has j c = false) :
    zeroed j c o i = if OnFace j i then FloatOps.ofBits .f32 0x00000000#32 else o i := by
  have h0 := idx_lt i 0; have h1 := idx_lt i 1; have h2 := idx_lt i 2
  unfold zeroed
  rw [if_neg (by rw [hj]; decide)]
  match j with
  | 0 | 1 | 2 | 3 | 4 | 5 =>
    refine (stored_apply _ o _ i).trans ?_
    refine dite_congr (propext ((inside3 i).trans ?_)) (fun _ => rfl) fun _ => rfl
    simp only [OnFace, axis, edge]; omega

end Cert.Halo

end
-- ==== Proof.BlockSum.lean ====
/-
# The result of a device as one sum

Over the extended reals the additions may be taken in any order, so what the kernel gathers in two rounds, first inside
the block and then over the faces, is one sum over the six directions: minus six times the entry plus the six neighbouring
entries, each from the block it lies in; and zero on the boundary of the whole array.
-/
module

public import proofs.«01_k».proof.Proof.BlockValue
public import Idealize.ShloMosaic.PureOps.Ideal.Laws

@[expose] public section

noncomputable section

namespace Cert.Halo

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## Going through the directions -/

/-- Steps that each add a term at position `i` add the terms' sum. -/
theorem foldl_sum (f : Dir → Blk Ideal → Blk Ideal) (g : Dir → EReal) (i : S64x64x64.Idx)
    (h : ∀ j o, f j o i = o i + g j) (l : List Dir) (o : Blk Ideal) :
    l.foldl (fun o j => f j o) o i = o i + (l.map g).sum := by
  induction l generalizing o with
  | nil => simp
  | cons j l ih => rw [List.foldl_cons, ih, h, List.map_cons, List.sum_cons, add_assoc]

/-! ## The three kinds of step at the extended reals -/

/-- A device's block of the input, -/
abbrev block (c : Dev nD) : S64x64x64.Idx → EReal := ublk m ρ c
/-- and the steps on a block of results. -/
def zeroStp (c : Dev nD) (j : Dir) (o : Blk Ideal) : Blk Ideal := zeroed (F := Ideal) j c o
def recvStp (c : Dev nD) (j : Dir) (o : Blk Ideal) : Blk Ideal := received m ρ j c o
def addStp (c : Dev nD) (j : Dir) (o : Blk Ideal) : Blk Ideal := addedAt m ρ j c o

/-- An element after the outermost faces' zeros of one direction. -/
theorem zeroStp_apply (c : Dev nD) (j : Dir) (o : Blk Ideal) (i : S64x64x64.Idx) :
    zeroStp c j o i = if OnFace j i → has j c = true then o i else (0 : EReal) := by
  cases hj : has j c
  · refine (zeroed_apply j c o i hj).trans ?_
    by_cases hf : OnFace j i
    · rw [if_pos hf, if_neg (fun h => absurd (h hf) (by decide))]; exact Ideal.ofBits_zero_f32
    · rw [if_neg hf, if_pos (fun h => absurd h hf)]
  · rw [if_pos (fun _ => rfl)]; unfold zeroStp zeroed; rw [if_pos hj]

/-- An element after one arrived face was added. -/
theorem recvStp_apply (c : Dev nD) (j : Dir) (o : Blk Ideal) (i : S64x64x64.Idx) (h : OnFace j i → has j c = true) :
    recvStp m ρ c j o i = o i + if OnFace j i then block m ρ (nbr j c) (step j i) else (0 : EReal) := by
  by_cases hf : OnFace j i
  · refine (received_apply m ρ j c o i (h hf)).trans ?_
    rw [if_pos hf, if_pos hf]; rfl
  · rw [if_neg hf]
    refine Eq.trans ?_ (add_zero _).symm
    cases hj : has j c
    · unfold recvStp received; rw [if_neg (by rw [hj]; decide)]
    · refine (received_apply m ρ j c o i hj).trans ?_
      rw [if_neg hf]

/-- An element after the block's own neighbour in one direction was added. -/
theorem addStp_apply (c : Dev nD) (j : Dir) (o : Blk Ideal) (i : S64x64x64.Idx) :
    addStp m ρ c j o i = o i + if OnFace j i then (0 : EReal) else block m ρ c (step j i) := by
  refine (addedAt_apply m ρ j c o i).trans ?_
  by_cases hf : OnFace j i
  · rw [if_neg (not_not.mpr hf), if_pos hf]; exact (add_zero _).symm
  · rw [if_pos hf, if_neg hf]; rfl

/-- Going through the directions of the boundary leaves zero on it and changes nothing off it. -/
theorem zeroStp_fold (c : Dev nD) (i : S64x64x64.Idx) (l : List Dir) (o : Blk Ideal) :
    l.foldl (fun o j => zeroStp c j o) o i = if ∀ j ∈ l, OnFace j i → has j c = true then o i else (0 : EReal) := by
  induction l generalizing o with
  | nil => simp
  | cons j l ih =>
    rw [List.foldl_cons, ih, zeroStp_apply]
    by_cases hj : OnFace j i → has j c = true
    · rw [if_pos hj]
      exact if_congr ⟨fun h => List.forall_mem_cons.mpr ⟨hj, h⟩, fun h => (List.forall_mem_cons.mp h).2⟩ rfl rfl
    · rw [if_neg hj, ite_self, if_neg fun h => hj (h j List.mem_cons_self)]

/-! ## The sum -/

/-- The device whose block holds the entry one step in direction `j` from position `i` of `c`'s block. -/
def holder (j : Dir) (c : Dev nD) (i : S64x64x64.Idx) : Dev nD := if OnFace j i then nbr j c else c

/-- The two literals: minus six is the negative of six. -/
theorem neg_six : Ideal.ofBits .f32 0xC0C00000#32 = -Ideal.ofBits .f32 0x40C00000#32 := by
  simp [Ideal.ofBits, Ideal.ieee]

/-- The result's entries: the six neighbours less six times the entry, and zero on the boundary. -/
theorem outAt_apply (c : Dev nD) (i : S64x64x64.Idx) :
    (outAt m ρ c : Blk Ideal) i = if ∀ j, OnFace j i → has j c = true then
        -(Ideal.ofBits .f32 0x40C00000#32 * block m ρ c i) + (dirs.map fun j => block m ρ (holder j c i) (step j i)).sum
      else (0 : EReal) := by
  have hall : (∀ j ∈ dirs, OnFace j i → has j c = true) ↔ ∀ j, OnFace j i → has j c = true :=
    ⟨fun h j => h j (by revert j; decide), fun h j _ => h j⟩
  show dirs.foldl (fun o j => zeroStp c j o) (dirs.foldl (fun o j => recvStp m ρ c j o)
    (dirs.foldl (fun o j => addStp m ρ c j o) (k0_pay4 (ublk m ρ c)))) i = _
  rw [zeroStp_fold]
  by_cases hin : ∀ j, OnFace j i → has j c = true
  · have h4 : k0_pay4 (ublk m ρ c) i = -(Ideal.ofBits .f32 0x40C00000#32 * block m ρ c i) := by
      simp only [k0_pay4, shapeCast_self]
      show Ideal.ofBits .f32 0xC0C00000#32 * block m ρ c i = _
      rw [neg_six, EReal.neg_mul]
    rw [if_pos (hall.mpr hin), if_pos hin, foldl_sum (recvStp m ρ c) _ i fun j o => recvStp_apply m ρ c j o i (hin j),
      foldl_sum (addStp m ρ c) _ i fun j o => addStp_apply m ρ c j o i, h4, add_assoc, ← List.sum_map_add]
    refine congrArg (fun l : List EReal => _ + l.sum) (List.map_congr_left fun j _ => ?_)
    unfold holder
    by_cases hf : OnFace j i
    · simp only [if_pos hf]; exact zero_add _
    · simp only [if_neg hf]; exact add_zero _
  · rw [if_neg (fun h => hin (hall.mp h)), if_neg hin]

end Cert.Halo

end
-- ==== Proof.Reference.lean ====
/-
# What the reference computes

An inner position of the whole array gets the sum of its six neighbours less six times its own entry; the outermost
positions get zero.
-/
module

public import proofs.«01_k».proof.Proof.BlockValue
public import proofs.«01_k».proof.Proof.Gen.ReferenceIdeal.Run
public import Idealize.ShloMosaic.PureOps.Ideal.Laws

@[expose] public section

noncomputable section

namespace Cert.Halo

open Cert.ReferenceIdeal Cert.ReferenceIdeal.Gen
open Idealize.ShloMosaic Idealize.ShloMosaic.TcCoe Idealize.SL.Sem

/-- The contents of a whole array. -/
abbrev Whole : Type := S128x128x256.Idx → EReal

/-- The part of the whole array the reference adds at offsets `off`. -/
abbrev shifted (off : Fin 3 → ℕ) (h : S128x128x256.Slices off S126x126x254) (u : FVec Ideal S128x128x256 .f32) : FVec Ideal S126x126x254 .f32 :=
  extractStridedSlice S126x126x254 off u h

/-- The reference's value as its operations compose. -/
def refTerm (u : FVec Ideal S128x128x256 .f32) : FVec Ideal S128x128x256 .f32 :=
  pad S128x128x256 ![1, 1, 1] ![1, 1, 1] ![0, 0, 0]
    (subf (addf (addf (addf (addf (addf (shifted ![0, 1, 1] slices_S128x128x256_S126x126x254_0_1_1 u) (shifted ![2, 1, 1] slices_S128x128x256_S126x126x254_2_1_1 u))
          (shifted ![1, 0, 1] slices_S128x128x256_S126x126x254_1_0_1 u)) (shifted ![1, 2, 1] slices_S128x128x256_S126x126x254_1_2_1 u))
          (shifted ![1, 1, 0] slices_S128x128x256_S126x126x254_1_1_0 u)) (shifted ![1, 1, 2] slices_S128x128x256_S126x126x254_1_1_2 u))
      (mulf (broadcastInDim S126x126x254 ![] bcast_S_S126x126x254 (constant S_ .f32 0x40C00000#32)) (shifted ![1, 1, 1] slices_S128x128x256_S126x126x254_1_1_1 u)))
    (sitofp .f32 (constantI S_ 32 0#32)) pads_S126x126x254_S128x128x256_110_110_110 h_S_

/-! ## Positions -/

/-- What a step in direction `j` adds to the coordinate on axis `a`, and what it takes away. -/
def up (j : Dir) (a : Fin 3) : ℕ := if a = axis j ∧ edge j = 63 then 1 else 0
def down (j : Dir) (a : Fin 3) : ℕ := if a = axis j ∧ edge j = 0 then 1 else 0

/-- The position one step from `p` in direction `j`. -/
def wstep (j : Dir) (p : S128x128x256.Idx) : S128x128x256.Idx := fun a =>
  ⟨((p a).val + up j a - down j a) % S128x128x256.size a, Nat.mod_lt _ (by revert a; decide)⟩

/-- Position `p` is not an outermost one. -/
def Inner (p : S128x128x256.Idx) : Prop := ∀ a, 1 ≤ (p a).val ∧ (p a).val + 1 < S128x128x256.size a

instance (p : S128x128x256.Idx) : Decidable (Inner p) := inferInstanceAs (Decidable (∀ a : Fin 3, _))

/-- The same, written out. -/
theorem inner3 (p : S128x128x256.Idx) : Inner p ↔ (1 ≤ (p 0).val ∧ (p 0).val + 1 < 128) ∧ (1 ≤ (p 1).val ∧ (p 1).val + 1 < 128)
    ∧ (1 ≤ (p 2).val ∧ (p 2).val + 1 < 256) := forall3

/-- The shifted part at the place of `p`, counted from one, is the array at a position whose coordinates are known. -/
theorem shifted_apply (off : Fin 3 → ℕ) (h : S128x128x256.Slices off S126x126x254) (u : FVec Ideal S128x128x256 .f32)
    (k : S126x126x254.Idx) (q : S128x128x256.Idx) (hq : ∀ a : Fin 3, (q a).val = off a + (k a).val) : shifted off h u k = u q :=
  congrArg u (funext fun a => Fin.ext (hq a).symm)

/-- Zero, as the reference converts it. -/
theorem zero_conv (x : S_.Idx) : (sitofp .f32 (constantI S_ 32 0#32) : FVec Ideal S_ .f32) x = (0 : EReal) := by
  show (((0#32 : BitVec 32).toInt : ℝ) : EReal) = 0
  simp

/-- The padding asks for the inner positions. -/
theorem pad_inner (p : S128x128x256.Idx) :
    (∀ a : Fin 3, (![1, 1, 1] : Fin 3 → ℕ) a ≤ (p a).val ∧ ((p a).val - (![1, 1, 1] : Fin 3 → ℕ) a) % ((![0, 0, 0] : Fin 3 → ℕ) a + 1) = 0
        ∧ ((p a).val - (![1, 1, 1] : Fin 3 → ℕ) a) / ((![0, 0, 0] : Fin 3 → ℕ) a + 1) < S126x126x254.size a) ↔ Inner p := by
  rw [inner3, forall3]
  show (1 ≤ (p 0).val ∧ ((p 0).val - 1) % (0 + 1) = 0 ∧ ((p 0).val - 1) / (0 + 1) < 126)
    ∧ (1 ≤ (p 1).val ∧ ((p 1).val - 1) % (0 + 1) = 0 ∧ ((p 1).val - 1) / (0 + 1) < 126)
    ∧ (1 ≤ (p 2).val ∧ ((p 2).val - 1) % (0 + 1) = 0 ∧ ((p 2).val - 1) / (0 + 1) < 254) ↔ _
  omega

/-- The place of an inner position in the parts the reference adds. -/
def place (p : S128x128x256.Idx) (h : Inner p) : S126x126x254.Idx := fun a =>
  ⟨((p a).val - (![1, 1, 1] : Fin 3 → ℕ) a) / ((![0, 0, 0] : Fin 3 → ℕ) a + 1), ((pad_inner p).mpr h a).2.2⟩

/-- The shifted parts at the place of an inner position: what they hold is known by the coordinates. -/
theorem shifted_place (o0 o1 o2 : ℕ) (h : S128x128x256.Slices ![o0, o1, o2] S126x126x254) (u : FVec Ideal S128x128x256 .f32)
    (p q : S128x128x256.Idx) (hp : Inner p)
    (hq : (q 0).val = o0 + ((p 0).val - 1) ∧ (q 1).val = o1 + ((p 1).val - 1) ∧ (q 2).val = o2 + ((p 2).val - 1)) :
    shifted ![o0, o1, o2] h u (place p hp) = u q :=
  shifted_apply _ h u _ q (forall3.mpr (by
    obtain ⟨h0, h1, h2⟩ := hq
    refine ⟨h0.trans ?_, h1.trans ?_, h2.trans ?_⟩
    · show o0 + ((p 0).val - 1) = o0 + ((p 0).val - 1) / (0 + 1); omega
    · show o1 + ((p 1).val - 1) = o1 + ((p 1).val - 1) / (0 + 1); omega
    · show o2 + ((p 2).val - 1) = o2 + ((p 2).val - 1) / (0 + 1); omega))

/-- A step's coordinates, written out. -/
theorem wstep3 (j : Dir) (p : S128x128x256.Idx) :
    ((wstep j p 0).val = ((p 0).val + up j 0 - down j 0) % 128) ∧ ((wstep j p 1).val = ((p 1).val + up j 1 - down j 1) % 128)
      ∧ ((wstep j p 2).val = ((p 2).val + up j 2 - down j 2) % 256) := ⟨rfl, rfl, rfl⟩

/-- The reference's value, entry by entry. -/
theorem refTerm_apply (u : FVec Ideal S128x128x256 .f32) (p : S128x128x256.Idx) :
    refTerm u p = if Inner p then
      ((dirs.map fun j => (u (wstep j p) : EReal)).sum - Ideal.ofBits .f32 0x40C00000#32 * u p : EReal) else (0 : EReal) := by
  unfold refTerm pad
  by_cases hp : Inner p
  · rw [if_pos hp]
    refine (dif_pos ((pad_inner p).mpr hp)).trans ?_
    show (shifted _ _ u (place p hp) + shifted _ _ u (place p hp) + shifted _ _ u (place p hp) + shifted _ _ u (place p hp)
      + shifted _ _ u (place p hp) + shifted _ _ u (place p hp) - Ideal.ofBits .f32 0x40C00000#32 * shifted _ _ u (place p hp) : EReal) = _
    have hp' := (inner3 p).mp hp
    rw [shifted_place 0 1 1 _ u p (wstep 0 p) hp, shifted_place 2 1 1 _ u p (wstep 1 p) hp, shifted_place 1 0 1 _ u p (wstep 2 p) hp,
      shifted_place 1 2 1 _ u p (wstep 3 p) hp, shifted_place 1 1 0 _ u p (wstep 4 p) hp, shifted_place 1 1 2 _ u p (wstep 5 p) hp,
      shifted_place 1 1 1 _ u p p hp]
    · simp only [List.map_cons, List.map_nil, List.sum_cons, List.sum_nil, add_zero, add_assoc]
    · omega
    all_goals
      obtain ⟨h0, h1, h2⟩ := wstep3 _ p
      rw [h0, h1, h2]
      simp only [up, down, axis, edge]
      simp
      omega
  · rw [if_neg hp]
    exact (dif_neg fun h => hp ((pad_inner p).mp h)).trans (zero_conv _)

end Cert.Halo

end
-- ==== Proof.Device.lean ====
/-
# The kernel's body on one device

What the launch gives a device before the body and what the body leaves, and that the printed body takes the one to
the other.
-/
module

public import proofs.«01_k».proof.Proof.Run

@[expose] public section

noncomputable section

namespace Cert.Halo

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

variable (c : Dev nD)

/-! ## The pipeline's proof data -/

/-- The ghost state device `c` starts from: the records, its cells' positions, and the duties it pays. -/
def payToks (c : Dev nD) : sProp 𝕄 :=
  iprop((bigSep Finset.univ fun k : Dir => dutyTok ER (barCell (nbr k c)) 0 (opp k))
    ∗ (bigSep Finset.univ fun k : Dir => dutyTok ER (sendCell c k) 0 k)
    ∗ bigSep Finset.univ fun k : Dir => dutyTok ER (arrCell (nbr k c) k) 0 k)
def ghost (c : Dev nD) : sProp 𝕄 :=
  iprop(records m ρ K ∗ (bigSep Finset.univ fun x : CI => atPos ER (kcell (c, x)) 0 ∅ 0) ∗ payToks c)

/-- The credit it starts with: a unit for each neighbour at its barrier, a face's units at each arrival cell in use. -/
def credits (c : Dev nD) : sProp 𝕄 :=
  iprop(cred (tallyAt (barCell c) () (deg c)) ∗ bigSep Finset.univ fun k : Dir => given (has (opp k) c) iprop(cred (tallyAt (arrCell c k) () (cnt k))))

def start (c : Dev nD) : sProp 𝕄 := iprop((∃ K, ghost m ρ K c) ∗ credits c ∗ levAts L lv)

/-- The buffers the kernel keeps for itself: the two copies, and those the neighbours' faces land in. -/
def scratch (c : Dev nD) : sProp 𝕄 :=
  iprop((∃ f, ((c : Thread nD τ).loc cc0_scratch0) ↦{fullShare} f) ∗ (∃ f, ((c : Thread nD τ).loc cc0_scratch1) ↦{fullShare} f)
    ∗ bigSep Finset.univ fun k : Dir => areaPts (F := F) k c)

def Φ₀ (c : Dev nD) : sProp 𝕄 := iprop(start m ρ c ∗ scratch c)
def Φ₁ (c : Dev nD) : sProp 𝕄 := iprop(scratch (F := F) c ∗ bigSep Finset.univ fun x : CI => semVal (kcell (c, x)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => ublk m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The launch has one grid step. -/
theorem cfg0_N : cfg0.N = 1 := by decide
def t₀ : Fin cfg0.N := ⟨0, by rw [cfg0_N]; decide⟩
/-- The only grid step is the first. -/
theorem fin_N (t : Fin cfg0.N) : t = t₀ := by
  obtain ⟨t, ht⟩ := t; have := cfg0_N; exact Fin.ext (by simp only [t₀]; omega)
/-- The input window is fetched. -/
theorem fetch_0 (t : Fin cfg0.N) : (cfg0.win (0 : Fin 2)).fetch t = true := by rw [fin_N t]; rfl

/-! ## Closing the cells -/

/-- Where a device's position at each of its cells ends. -/
def ends (c : Dev nD) : CI → ℕ
  | .inl _ => 1
  | .inr (.inl k) => rounds (has k c)
  | .inr (.inr k) => rounds (has (opp k) c)

/-- After its last round a cell has no duty. -/
theorem duties_after (x : CI) : ∀ r, ends c x ≤ r → (xchg (F := F) m ρ).duties (kcell (c, x)) r = ∅ := by
  match x with
  | .inl _ => exact duties_later m ρ _
  | .inr (.inl k) => exact duties_send_after m ρ c k
  | .inr (.inr k) => exact duties_arr_after m ρ c k

/-- A cell at the end of its rounds gives back its counter at zero. -/
theorem close_cell (x : CI) : iprop(records m ρ K ∗ atPos ER (kcell (c, x)) (ends c x) ∅ 0)
    ⊢ (|={Set.univ}=> semVal (kcell (c, x)) 0 : sProp 𝕄) := by
  iintro ⟨#HR, Hat⟩
  imod (Rounds.cell_close ER (xchg m ρ) (Set.mem_univ (K (c, x))) (fun h => h) (R := ends c x) (duties_after m ρ c x)) $$ [Hat] with Hz
  · isplitr; · iapply (inv_at m ρ K (c, x)); iexact HR
    iexact Hat
  imodintro; iexact Hz

/-- What each member of a family follows from with a persistent statement, the family does. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All of a device's counters are at zero again. -/
theorem close_cells : iprop(records m ρ K ∗ bigSep Finset.univ fun x : CI => atPos ER (kcell (c, x)) (ends c x) ∅ 0)
    ⊢ (|={Set.univ}=> bigSep Finset.univ fun x : CI => semVal (kcell (c, x)) 0 : sProp 𝕄) :=
  (bigSep_with_persistent fun x _ => close_cell m ρ K c x).trans (bigSep_fupd _ _)

/-- A statement for each cell is one for the barrier, one for each send and one for each arrival. -/
theorem bigSep_CI (Φ : CI → sProp 𝕄) : bigSep Finset.univ Φ
    = iprop(Φ barI ∗ (bigSep Finset.univ fun k => Φ (sendI k)) ∗ bigSep Finset.univ fun k => Φ (arrI k)) := by
  rw [bigSep_univ_sum, bigSep_univ_sum, bigSep_univ_of_subsingleton ()]; rfl

/-- A statement for each direction is one for each opposite direction. -/
def oppE : Dir ≃ Dir := ⟨opp, opp, opp_opp, opp_opp⟩
/-- A conjunction over the directions, taken over the opposite ones. -/
theorem bigSep_opp (Φ : Dir → sProp 𝕄) : bigSep Finset.univ Φ = bigSep Finset.univ fun k => Φ (opp k) := bigSep_univ_equiv oppE Φ

/-- A statement for each direction, in a row. -/
theorem bigSep_dirs (Φ : Dir → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-! ## What passes from part to part -/

/-- The receive buffers of all directions, split. -/
theorem areas_split : (bigSep Finset.univ fun k : Dir => areaPts (F := F) k c)
    ⊢ (iprop((bigSep Finset.univ fun k : Dir => iprop(∃ f, landPts (F := F) (opp k) c f)) ∗ bigSep Finset.univ fun k : Dir => asidePts (F := F) k c) : sProp 𝕄) := by
  rw [← bigSep_opp fun k => iprop(∃ f, landPts (F := F) k c f), ← bigSep_sep']
  exact bigSep_mono fun k _ => area_split c k

/-- The receive buffers of all directions, put together again. -/
theorem areas_join : (iprop((bigSep Finset.univ fun k : Dir => iprop(∃ f, landPts (F := F) (opp k) c f)) ∗ bigSep Finset.univ fun k : Dir => asidePts (F := F) k c) : sProp 𝕄)
    ⊢ bigSep Finset.univ fun k : Dir => areaPts (F := F) k c := by
  rw [← bigSep_opp fun k => iprop(∃ f, landPts (F := F) k c f), ← bigSep_sep']
  exact bigSep_mono fun k _ => area_join c k

/-- The signals have their duties and the landing places, -/
theorem signals_gather : iprop((bigSep Finset.univ fun k : Dir => dutyTok ER (barCell (nbr k c)) 0 (opp k))
      ∗ bigSep Finset.univ fun k : Dir => iprop(∃ f, landPts (F := F) (opp k) c f))
    ⊢ bigSep Finset.univ (sigPre (F := F) c) := by
  unfold sigPre; rw [bigSep_sep']

/-- the waits for landed faces their credit and positions, -/
theorem receipts_gather : iprop((bigSep Finset.univ fun k : Dir => given (has (opp k) c) iprop(cred (tallyAt (arrCell c k) () (cnt k))))
      ∗ (bigSep Finset.univ fun k : Dir => atPos ER (arrCell c k) 0 ∅ 0) ∗ bigSep Finset.univ (sigPost (F := F) c))
    ⊢ bigSep Finset.univ (recvPre (F := F) c) := by
  unfold recvPre
  rw [bigSep_opp fun k => given (has (opp k) c) iprop(cred (tallyAt (arrCell c k) () (cnt k))), bigSep_opp fun k => atPos ER (arrCell c k) 0 ∅ 0,
    bigSep_sep', bigSep_sep']
  simp only [opp_opp]
  exact .rfl

/-- and the waits for sent faces what the transfers left. -/
theorem sent_gather : iprop((bigSep Finset.univ fun k : Dir => sentSt m ρ k c) ∗ bigSep Finset.univ fun k : Dir => atPos ER (sendCell c k) 0 ∅ 0)
    ⊢ bigSep Finset.univ (sentPre m ρ c) := by
  unfold sentPre; rw [bigSep_sep']

/-- The waits for landed faces leave their positions and the landing places, -/
theorem receipts_scatter : bigSep Finset.univ (recvPost (F := F) c)
    ⊢ iprop((bigSep Finset.univ fun k : Dir => atPos ER (arrCell c (opp k)) (rounds (has k c)) ∅ 0)
      ∗ bigSep Finset.univ fun k : Dir => iprop(∃ f, landPts (F := F) (opp k) c f)) := by
  unfold recvPost; rw [bigSep_sep']

/-- and those for sent faces what was read and their positions. -/
theorem sent_scatter : bigSep Finset.univ (sentPost m ρ c)
    ⊢ iprop((bigSep Finset.univ fun k : Dir => srcPts m ρ k c) ∗ bigSep Finset.univ fun k : Dir => atPos ER (sendCell c k) (rounds (has k c)) ∅ 0) := by
  unfold sentPost; rw [bigSep_sep']

/-- At the end every position is past the last of its duties. -/
theorem ends_gather : iprop(atPos ER (barCell c) 1 ∅ 0 ∗ (bigSep Finset.univ fun k : Dir => atPos ER (sendCell c k) (rounds (has k c)) ∅ 0)
      ∗ bigSep Finset.univ fun k : Dir => atPos ER (arrCell c (opp k)) (rounds (has k c)) ∅ 0)
    ⊢ (bigSep Finset.univ fun x : CI => atPos ER (kcell (c, x)) (ends c x) ∅ 0 : sProp 𝕄) := by
  rw [bigSep_CI, bigSep_opp fun k => atPos ER (kcell (c, arrI k)) (ends c (arrI k)) ∅ 0]
  unfold ends
  simp only [opp_opp]
  exact .rfl

/-! ## The body -/

/-- A conjunction over the two windows, written out. -/
theorem bigSep_W (Φ : Fin cfg0.W → sProp 𝕄) : bigSep Finset.univ Φ = iprop(Φ (0 : Fin 2) ∗ Φ (1 : Fin 2)) := bigSep_W0 Φ

/-- Owning the whole of a buffer is owning its contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The printed body at the pipeline's buffers. -/
abbrev body (F : FTy → Type) [FloatOps F] : P F PUnit :=
  cc0_body (F := F) (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _) cc0_scratch8 cc0_scratch9

/-- The run of the five parts. -/
theorem wp_body (Q : PUnit → sProp 𝕄) :
    iprop(ghost m ρ K c ∗ credits c ∗ levAts L lv ∗ scratch c ∗ Owes c (O₀ c) ∗ blkPts m ρ fullShare c ∗ (∃ o, outPts c o)
        ∗ ((Φ₁ c ∗ Owes c 0 ∗ blkPts m ρ fullShare c ∗ outPts c (outAt m ρ c)) -∗ Q ⟨⟩))
      ⊢ Wp c (body F) Q := by
  unfold body
  rw [cc0_body_eq_skeleton]; unfold cc0_body_skel
  rw [part1_eq, Wp, wp_bind]
  unfold ghost payToks credits scratch
  rw [bigSep_CI]
  iintro ⟨⟨#HR, ⟨HaB, HaS, HaV⟩, HtB, HtS, HtV⟩, ⟨HcB, HcV⟩, #Hlev, ⟨Hlo, Hhi, Har⟩, HO, Hu, Hout, Hk⟩
  ihave Hu := (blk_split m ρ c) $$ Hu
  icases Hu with ⟨Hu, Hs, Has⟩
  ihave Har := (areas_split (F := F) c) $$ Har
  icases Har with ⟨Hl, Hal⟩
  iapply (wp_part1 m ρ K c)
  isplitr; · iexact HR
  isplitl [HO]; · iexact HO
  isplitl [HtB Hl]
  · iapply (signals_gather (F := F) c)
    isplitl [HtB] <;> iassumption
  isplitl [Hu]; · iexact Hu
  iintro ⟨HO, Hl, Hu⟩
  dsimp only [head]
  rw [part2_eq, wp_bind]
  iapply (wp_part2 m ρ K c)
  isplitr; · iexact HR
  isplitr; · iexact Hlev
  isplitl [HO]; · iexact HO
  isplitl [HcB]; · iexact HcB
  isplitl [HaB]; · iexact HaB
  isplitl [Hlo]; · iexact Hlo
  isplitl [Hhi]; · iexact Hhi
  isplitl [Hs]; · iexact Hs
  isplitl [HtS]; · iexact HtS
  isplitl [HtV]; · iexact HtV
  isplitl [Hu]; · iexact Hu
  isplitl [Hout]; · iexact Hout
  iintro ⟨HO, HaB, Hs, Hu, Hout⟩
  rw [part3_eq, wp_bind]
  iapply (wp_part3 m ρ c _)
  isplitl [Hu]; · iexact Hu
  isplitl [Hout]; · iexact Hout
  iintro %o' ⟨%ho, Hu, Hout⟩
  rw [part4_eq, wp_bind]
  iapply (wp_part4 m ρ K c o')
  isplitr; · iexact HR
  isplitl [HO]; · iexact HO
  isplitl [HcV HaV Hl]
  · iapply (receipts_gather (F := F) c)
    isplitl [HcV]; · iexact HcV
    isplitl [HaV]; · iexact HaV
    iexact Hl
  isplitl [Hu]; · iexact Hu
  isplitl [Hout]; · iexact Hout
  iintro ⟨HO, Hr, Hu, Hout⟩
  rw [part5_eq, wp_bind]
  iapply (wp_part5 m ρ K c _)
  isplitr; · iexact HR
  isplitl [HO]; · iexact HO
  isplitl [Hs HaS]
  · iapply (sent_gather m ρ c)
    isplitl [Hs]; · iexact Hs
    iexact HaS
  isplitl [Hout]; · iexact Hout
  iintro ⟨HO, Hs, Hout⟩
  rw [Idealize.SL.Sem.Prog.pure_eq_ret, wp_ret]
  ihave Hr := (receipts_scatter (F := F) c) $$ Hr
  ihave Hs := (sent_scatter m ρ c) $$ Hs
  icases Hr with ⟨HaV, Hl⟩
  icases Hs with ⟨Hs, HaS⟩
  imod (close_cells m ρ K c) $$ [HaB HaS HaV] with Hz
  · isplitr; · iexact HR
    iapply (ends_gather (F := F) c)
    isplitl [HaB]; · iexact HaB
    isplitl [HaS] <;> iassumption
  imodintro
  ihave Hs := (Entails.of_eq (bigSep_dirs fun k => srcPts m ρ k c)) $$ Hs
  icases Hs with ⟨H0, H1, H2, H3, H4, H5⟩
  ihave Hlo := (Entails.of_eq (srcPts_lo m ρ c)) $$ H4
  ihave Hhi := (Entails.of_eq (srcPts_hi m ρ c)) $$ H5
  iapply Hk
  subst ho
  isplitl [Hlo Hhi Hl Hal Hz]
  · unfold Φ₁ scratch
    isplitl [Hlo Hhi Hl Hal]
    · isplitl [Hlo]; · iexists _; iexact Hlo
      isplitl [Hhi]; · iexists _; iexact Hhi
      iapply (areas_join (F := F) c)
      isplitl [Hl] <;> iassumption
    iexact Hz
  isplitl [HO]; · iexact HO
  isplitl [Hu H0 H1 H2 H3 Has]
  · iapply (blk_join m ρ c)
    isplitl [Hu]; · iexact Hu
    isplitl [H0 H1 H2 H3]
    · isplitl [H0]; · iexact H0
      isplitl [H1]; · iexact H1
      isplitl [H2] <;> iassumption
    iexact Has
  unfold outAt inner
  iexact Hout

/-! ## The pipeline's obligation -/

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d)) ∗ (∃ d, stg c cc0_stg1_0 ((dats m ρ 0 c).before (1 : Fin 2) t₀ d)))
def bodyPost (c : Dev nD) : sProp 𝕄 :=
  iprop(Φ₁ c ∗ (dats m ρ 0 c).owesAt () t₀.succ
    ∗ stg c cc0_stg0_0 (ublk m ρ c) ∗ stg c cc0_stg1_0 (outAt m ρ c))

set_option maxRecDepth 4000 in
/-- The body takes what the pipeline gives it to what it is to leave. -/
theorem body_obligation : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ (body F) (fun _ => bodyPost m ρ c)
  unfold bodyPre Φ₀ start Dat.owesAt Pipeline.owesWithin
  rw [show (dats m ρ 0 c).owed t₀.castSucc = O₀ c from rfl]
  iintro ⟨⟨⟨⟨%K, Hg⟩, Hc, Hl⟩, Hscr⟩, ⟨%W, -, HO⟩, ⟨%d₀, %f, %hf, Hu⟩, %d₁, %g, %hg, Hout⟩
  have hb : (dats m ρ 0 c).before (0 : Fin 2) t₀ d₀ = ublk m ρ c := by rw [Dat.before, if_pos (fetch_0 _)]; rfl
  iapply (wp_body m ρ K c)
  isplitl [Hg]; · iexact Hg
  isplitl [Hc]; · iexact Hc
  isplitl [Hl]; · iexact Hl
  isplitl [Hscr]; · iexact Hscr
  isplitl [HO]; · iexists W; iexact HO
  isplitl [Hu]; · rw [hf, hb]; unfold blkPts; iexact Hu
  isplitl [Hout]; · iexists g; unfold outPts; iexact Hout
  unfold bodyPost Dat.owesAt Pipeline.owesWithin
  rw [show (dats m ρ 0 c).owed t₀.succ = 0 from rfl]
  iintro ⟨HΦ, ⟨%W, HO⟩, Hu, Hout⟩
  isplitl [HΦ]; · iexact HΦ
  isplitl [HO]
  · iexists W
    isplitr; · ipureintro; exact fun _ _ => Or.inl trivial
    iexact HO
  isplitl [Hu]
  · iexists _; isplitr; · (ipureintro; rfl)
    unfold blkPts; iexact Hu
  iexists _; isplitr; · (ipureintro; rfl)
  unfold outPts; iexact Hout

end Cert.Halo

end
-- ==== Proof.Launch.lean ====
/-
# The launch and the run

How the launch's ghost state and credit are dealt to the devices, and the run of the whole program from any memory.
-/
module

public import proofs.«01_k».proof.Proof.Device
public import Idealize.ShloMosaic.Lib.Pipeline.CollectiveSegs

@[expose] public section

noncomputable section

namespace Cert.Halo

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-! ## The cells and tokens at the launch -/

/-- The semaphores the kernel declares itself. -/
abbrev osem : Dir ⊕ Dir → SemLoc sig := fun x => csem (.inr x)
/-- The launch's own semaphores are the twelve of the copies. -/
theorem ownSemFacts : Pipeline.OwnSemFacts cfg0.spec osem := by decide

/-- Every window is held in full. -/
theorem share_eq (c : Dev nD) (w : Fin cfg0.W) : (dats m ρ 0 c).share w = fullShare := by unfold Dat.share; split <;> rfl

/-- Different cells of a device are different semaphores. -/
theorem csem_injective : Function.Injective csem := by decide
/-- Different cells of the mesh are different semaphores. -/
theorem kcell_injective : Function.Injective kcell := by
  rintro ⟨c, x⟩ ⟨c', x'⟩ h
  have h1 : c = c' := congrArg (fun g : GSem nD τ sig => g.1.1) h
  have h2 : x = x' := csem_injective (congrArg Prod.snd h)
  rw [h1, h2]
def xchgCells : Finset (GSem nD τ sig) := Finset.univ.map ⟨kcell, kcell_injective⟩

/-- The duties of a device's cells: at its barrier one for each direction, at each of the others its direction's. -/
def tokAt (x : Dev nD × (Dir ⊕ (Dir ⊕ Dir))) : GSem nD τ sig × ℕ × Dir := match x.2 with
  | .inl k => (barCell x.1, 0, k)
  | .inr (.inl k) => (sendCell x.1 k, 0, k)
  | .inr (.inr k) => (arrCell x.1 k, 0, k)
/-- The device of a token's cell. -/
theorem tokAt_fst (x : Dev nD × (Dir ⊕ (Dir ⊕ Dir))) : (tokAt x).1.1.1 = x.1 := by
  obtain ⟨c, _ | _ | _⟩ := x <;> rfl
def tokSem : Dir ⊕ (Dir ⊕ Dir) → SemLoc sig × Dir
  | .inl k => (.reg barS, k)
  | .inr (.inl k) => (.dma (sendS k), k)
  | .inr (.inr k) => (.dma (arrS k), k)
/-- Different tokens of a device differ in semaphore or direction. -/
theorem tokSem_injective : Function.Injective tokSem := by decide
/-- The semaphore and the direction of a token. -/
theorem tokAt_snd (x : Dev nD × (Dir ⊕ (Dir ⊕ Dir))) : ((tokAt x).1.2, (tokAt x).2.2) = tokSem x.2 := by
  obtain ⟨c, _ | _ | _⟩ := x <;> rfl
/-- Different tokens of the mesh are different. -/
theorem tokAt_injective : Function.Injective tokAt := by
  intro x y h
  have h1 : x.1 = y.1 := by rw [← tokAt_fst x, ← tokAt_fst y, h]
  have h2 : x.2 = y.2 := tokSem_injective (by rw [← tokAt_snd x, ← tokAt_snd y, h])
  exact Prod.ext h1 h2
def xchgToks : Finset (GSem nD τ sig × ℕ × Dir) := Finset.univ.map ⟨tokAt, tokAt_injective⟩

def u₀ : UU :=
  (initOf (Pipeline.cells cfgs cellOf_inj) (Pipeline.launchToks cfgs cellOf_inj), initOf xchgCells xchgToks)

/-- The duties of device `c`'s own cells. -/
def toks (c : Dev nD) : sProp 𝕄 :=
  iprop((bigSep Finset.univ fun k : Dir => dutyTok ER (barCell c) 0 k) ∗ (bigSep Finset.univ fun k : Dir => dutyTok ER (sendCell c k) 0 k)
    ∗ bigSep Finset.univ fun k : Dir => dutyTok ER (arrCell c k) 0 k)

/-- What the launch deals device `c`, -/
def G (c : Dev nD) : sProp 𝕄 :=
  iprop((bigSep Finset.univ fun x : CI => roundState ER (xchg m ρ) (kcell (c, x)) 0)
    ∗ (bigSep Finset.univ fun x : CI => iprop(atPos ER (kcell (c, x)) 0 ∅ 0 ∗ reached ER (kcell (c, x)) 0)) ∗ toks c)

/-- and what it holds once the duties have gone to those who pay them. -/
def G' (c : Dev nD) : sProp 𝕄 := iprop(∃ K, ghost m ρ K c)

/-- The protocol's ghost state is allotted to the cells and tokens. -/
theorem fund_cells : BI.own (ER (initOf xchgCells xchgToks)) ⊢ (|==> bigSep Finset.univ (G m ρ) : sProp 𝕄) := by
  have hX (Φ : GSem nD τ sig → sProp 𝕄) : bigSep xchgCells Φ = bigSep Finset.univ fun c : Dev nD => bigSep Finset.univ fun x : CI => Φ (kcell (c, x)) := by
    unfold xchgCells; rw [bigSep_map, bigSep_univ_prod]; rfl
  have hT : bigSep xchgToks (fun x => (dutyTok ER x.1 x.2.1 x.2.2 : sProp 𝕄)) = bigSep Finset.univ fun c : Dev nD => toks c := by
    unfold xchgToks; rw [bigSep_map, bigSep_univ_prod]
    exact bigSep_congr fun c _ => by unfold toks; rw [bigSep_univ_sum, bigSep_univ_sum]; rfl
  iintro HX
  imod (Rounds.fund ER (xchg m ρ) xchgCells xchgToks) $$ HX with ⟨Hst, Hr, Hat, Htok⟩
  imodintro
  ihave Hst := (Entails.of_eq (hX fun g => roundState ER (xchg m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

/-- A device's counters at the launch are its cells' counters. -/
theorem unscopedSems0_eq (c : Dev nD) : (unscopedSems0 c : sProp 𝕄) = semVal (barCell c) 0 := by
  unfold unscopedSems0; rw [bigSep_eq_bigSepL_of_eq [SemLoc.reg barS] (by decide) (by decide)]; rfl
/-- A device's own counters at zero, cell by cell. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun x : CI => semVal (kcell (c, x)) 0 : sProp 𝕄) := by
  rw [unscopedSems0_eq, bigSep_univ_sum, bigSep_univ_of_subsingleton ()]; rfl

/-- The invariants of one device's cells are set up. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x : CI => iprop(∃ κ : ℕ, cellInv ER (xchg m ρ) κ (kcell (c, x))))
          ∗ (bigSep Finset.univ fun x : CI => iprop(atPos ER (kcell (c, x)) 0 ∅ 0 ∗ reached ER (kcell (c, x)) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun x : CI => semVal (kcell (c, x)) 0) ∗ bigSep Finset.univ fun x : CI => roundState ER (xchg m ρ) (kcell (c, x)) 0)
      ⊢ (|={Set.univ}=> bigSep Finset.univ fun x : CI => iprop(∃ κ : ℕ, cellInv ER (xchg m ρ) κ (kcell (c, x))) : sProp 𝕄) from by
        rw [← bigSep_sep']
        exact (bigSep_mono fun x _ => (Rounds.body_intro ER (xchg m ρ) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

/-- What each device has for each direction, it may have from its neighbour there. -/
theorem bigSep_around (Φ : Dev nD → Dir → sProp 𝕄) :
    (bigSep Finset.univ fun c => bigSep Finset.univ fun k => Φ c k) = bigSep Finset.univ fun c => bigSep Finset.univ fun k => Φ (nbr k c) k := by
  rw [bigSep_univ_comm, bigSep_univ_comm fun c k => Φ (nbr k c) k]
  exact bigSep_congr fun k _ => bigSep_univ_equiv (shift k) fun c => Φ c k

/-- Each duty goes to the neighbour that pays it. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_congr (s := Finset.univ) (fun (c : Dev nD) _ => bigSep_opp fun k : Dir => (dutyTok ER (barCell c) 0 k : sProp 𝕄)),
    bigSep_around fun c k => (dutyTok ER (barCell c) 0 (opp k) : sProp 𝕄), bigSep_around fun c k => (dutyTok ER (arrCell c k) 0 k : sProp 𝕄)]

/-- A device's ghost state at the start. -/
theorem ghost_intro (K : Dev nD × CI → ℕ) (c : Dev nD) :
    iprop(records m ρ K ∗ (bigSep Finset.univ fun x : CI => atPos ER (kcell (c, x)) 0 ∅ 0) ∗ payToks c) ⊢ G' m ρ c := by
  unfold G' ghost
  iintro ⟨#HR, Hat, Ht⟩
  iexists K
  isplitr; · iexact HR
  isplitl [Hat] <;> iassumption

/-- With every cell's invariant allocated, the devices share the records. -/
theorem regroup :
    (bigSep Finset.univ fun c : Dev nD => iprop((bigSep Finset.univ fun x : CI => iprop(∃ κ : ℕ, cellInv ER (xchg m ρ) κ (kcell (c, x))))
          ∗ (bigSep Finset.univ fun x : CI => iprop(atPos ER (kcell (c, x)) 0 ∅ 0 ∗ reached ER (kcell (c, x)) 0)) ∗ toks c) : sProp 𝕄)
      ⊢ bigSep Finset.univ (G' m ρ) := by
  rw [bigSep_sep', bigSep_sep', ← bigSep_univ_prod (fun x : Dev nD × CI => iprop(∃ κ : ℕ, cellInv ER (xchg m ρ) κ (kcell x))),
    bigSep_congr (s := Finset.univ) (fun (c : Dev nD) _ => bigSep_sep' Finset.univ (fun x : CI => (atPos ER (kcell (c, x)) 0 ∅ 0 : sProp 𝕄)) (fun x => reached ER (kcell (c, x)) 0)),
    bigSep_sep', ← bigSep_univ_prod (fun x : Dev nD × CI => (reached ER (kcell x) 0 : sProp 𝕄))]
  iintro ⟨HI, ⟨Hat, #HR⟩, Htok⟩
  ihave HK := (BI.bigSep_exists_pi Finset.univ (fun (x : Dev nD × CI) (κ : ℕ) => (cellInv ER (xchg m ρ) κ (kcell x) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => bigSep Finset.univ fun x : CI => (atPos ER (kcell (c, x)) 0 ∅ 0 : sProp 𝕄)) payToks).symm)
    isplitl [Hat]; · iexact Hat
    iexact Htk

/-- All devices at once: from the counters and what was dealt to the ghost state each starts from. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit -/

/-- A credit that a device has if a test holds. -/
theorem given_cred (b : Bool) (t : CellTallies nD τ sig Unit) : given b iprop(cred t) = (cred (if b then t else 0) : sProp 𝕄) := by
  cases b
  · rw [given_false (by decide)]; exact cred_zero.symm
  · rw [given_true rfl]; rfl

/-- What each device owes its neighbour in direction `k` at a semaphore is the credit of the neighbour. -/
theorem launch_at (k : Dir) (sm : SemLoc sig) (n : ℕ) (c : Dev nD) :
    (Pipeline.launchCred (fun d => if has k d then tallyAt ((nbr k d : Thread nD τ), sm) () n else 0) c : sProp 𝕄)
      ⊢ given (has (opp k) c) iprop(cred (tallyAt ((c : Thread nD τ), sm) () n)) := by
  rw [given_cred]
  refine (Pipeline.launchCred_elim _ c sm).trans (Entails.of_eq (congrArg cred ?_))
  have hs : ∀ d : Dev nD, (if has k d then tallyAt ((nbr k d : Thread nD τ), sm) () n else (0 : CellTallies nD τ sig Unit)) ((c : Thread nD τ), sm) ()
      = if d = nbr (opp k) c then (if has (opp k) c then n else 0) else 0 := by
    intro d
    by_cases hd : d = nbr (opp k) c
    · subst hd
      rw [if_pos rfl, has_nbr_opp]
      by_cases hh : has (opp k) c = true
      · rw [if_pos hh, if_pos hh, nbr_nbr_opp, tallyAt_self]
      · rw [if_neg hh, if_neg hh]; rfl
    · rw [if_neg hd]
      by_cases hh : has k d = true
      · rw [if_pos hh, tallyAt_apply, if_neg]
        rintro ⟨h, -⟩
        have h' : c = nbr k d := congrArg (fun g : GSem nD τ sig => g.1.1) h
        exact hd (by rw [h', nbr_opp])
      · rw [if_neg hh]; rfl
  have hl : launchCredit (Pipeline.owing fun d => if has k d then tallyAt ((nbr k d : Thread nD τ), sm) () n else (0 : CellTallies nD τ sig Unit)) 0 ((c : Thread nD τ), sm)
      = Finsupp.single () (if has (opp k) c then n else 0) := Finsupp.ext fun u => by
    cases u
    rw [Pipeline.launchCredit_owing, Finsupp.single_eq_same, Finset.sum_congr rfl fun d _ => hs d, Finset.sum_ite_eq' Finset.univ (nbr (opp k) c) fun _ => _,
      if_pos (Finset.mem_univ _)]
  rw [hl]
  by_cases hh : has (opp k) c = true
  · rw [if_pos hh, if_pos hh]; rfl
  · rw [if_neg hh, if_neg hh, Finsupp.single_zero, tallyOn_zero]

/-- The credit of a sum over the directions, direction by direction. -/
theorem launch_plus (f : Dev nD → Dir → CellTallies nD τ sig Unit) (A : Dev nD → CellTallies nD τ sig Unit) (c : Dev nD) : ∀ ks : List Dir,
    (Pipeline.launchCred (fun d => plus (f d) (A d) ks) c : sProp 𝕄) ⊢ iprop(Pipeline.launchCred A c ∗ each (fun k => Pipeline.launchCred (fun d => f d k) c) ks)
  | [] => by
    unfold plus each
    iintro H
    isplitl; · iexact H
    iempintro
  | k :: ks => by
    show (Pipeline.launchCred (fun d => plus (f d) (A d) ks + f d k) c : sProp 𝕄)
      ⊢ iprop(Pipeline.launchCred A c ∗ Pipeline.launchCred (fun d => f d k) c ∗ each (fun k => Pipeline.launchCred (fun d => f d k) c) ks)
    rw [Pipeline.launchCred_add (fun d => plus (f d) (A d) ks) (fun d => f d k)]
    iintro ⟨H, Hk⟩
    ihave H := (launch_plus f A c ks) $$ H
    icases H with ⟨HA, Hs⟩
    isplitl [HA]; · iexact HA
    isplitl [Hk] <;> iassumption

/-- A unit for each neighbour, counted. -/
theorem bar_units (c : Dev nD) : (bigSep Finset.univ fun k : Dir => given (has (opp k) c) iprop(cred (tallyAt (barCell c) () 1)))
    ⊢ (cred (tallyAt (barCell c) () (deg c)) : sProp 𝕄) := by
  have hsum : ∀ s : Finset Dir, (∑ k ∈ s, if has k c then tallyAt (barCell c) () 1 else (0 : CellTallies nD τ sig Unit))
      = tallyAt (barCell c) () (s.filter fun k => has k c).card := fun s => by
    induction s using Finset.induction_on with
    | empty => rw [Finset.sum_empty, Finset.filter_empty, Finset.card_empty, tallyAt_zero]
    | insert a s ha ih =>
      rw [Finset.sum_insert ha, ih, Finset.filter_insert]
      by_cases hh : has a c = true
      · rw [if_pos hh, if_pos hh, Finset.card_insert_of_notMem (fun h => ha (Finset.mem_filter.mp h).1), tallyAt_add, Nat.add_comm]
      · rw [if_neg hh, if_neg hh, zero_add]
  rw [← bigSep_opp fun k => given (has k c) iprop(cred (tallyAt (barCell c) () 1)),
    bigSep_congr (s := Finset.univ) fun k _ => given_cred (F := F) (has k c) (tallyAt (barCell c) () 1), ← Pipeline.cred_finsetSum, hsum]
  exact .rfl

/-- The launch credit is what the kernel starts with. -/
theorem creds (c : Dev nD) : (Pipeline.launchCred O₀ c : sProp 𝕄) ⊢ credits c := by
  unfold credits
  iintro H
  ihave H := (show (Pipeline.launchCred O₀ c : sProp 𝕄) ⊢ _ from launch_plus (F := F) owedSig O₁ c dirs) $$ H
  icases H with ⟨H, HB⟩
  ihave H := (show (Pipeline.launchCred O₁ c : sProp 𝕄) ⊢ _ from launch_plus (F := F) owedSend (fun _ => 0) c dirs) $$ H
  icases H with ⟨-, HV⟩
  isplitl [HB]
  · iapply (bar_units (F := F) c)
    iapply (show bigSep Finset.univ (fun k => Pipeline.launchCred (fun d => owedSig d k) c) ⊢ _ from bigSep_mono fun k _ => launch_at (F := F) k (.reg barS) 1 c)
    iapply (each_dirs fun k => Pipeline.launchCred (fun d => owedSig d k) c).2
    iexact HB
  · iapply (show bigSep Finset.univ (fun k => Pipeline.launchCred (fun d => owedSend d k) c) ⊢ _ from bigSep_mono fun k _ => launch_at (F := F) k (.dma (arrS k)) (cnt k) c)
    iapply (each_dirs fun k => Pipeline.launchCred (fun d => owedSend d k) c).2
    iexact HV

/-! ## The side conditions of the launch -/

/-- What the launch gives a device is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

/-- The buffers the faces land in, one by one. -/
theorem areas_eq (c : Dev nD) : (bigSep Finset.univ fun k : Dir => areaPts (F := F) k c)
    = iprop((∃ f, ((c : Thread nD τ).loc cc0_scratch5) ↦{fullShare} f) ∗ (∃ f, ((c : Thread nD τ).loc cc0_scratch4) ↦{fullShare} f)
      ∗ (∃ f, ((c : Thread nD τ).loc cc0_scratch7) ↦{fullShare} f) ∗ (∃ f, ((c : Thread nD τ).loc cc0_scratch6) ↦{fullShare} f)
      ∗ (∃ f, ((c : Thread nD τ).loc cc0_scratch3) ↦{fullShare} f) ∗ (∃ f, ((c : Thread nD τ).loc cc0_scratch2) ↦{fullShare} f)) :=
  (bigSep_dirs fun k => areaPts (F := F) k c).trans rfl

/-- The kernel's own buffers, as the launch lists them. -/
theorem scratch_eq (c : Dev nD) : scratch (F := F) c ⊣⊢ Pipeline.scopedRest cfg0.spec c := by
  rw [scopedRest0_eq]; unfold scratch
  rw [areas_eq]
  constructor
  · iintro ⟨Hlo, Hhi, H5, H4, H7, H6, H3, H2⟩
    isplitl [Hlo]; · iexact Hlo
    isplitl [Hhi]; · iexact Hhi
    isplitl [H2]; · iexact H2
    isplitl [H3]; · iexact H3
    isplitl [H4]; · iexact H4
    isplitl [H5]; · iexact H5
    isplitl [H6]; · iexact H6
    iexact H7
  · iintro ⟨Hlo, Hhi, H2, H3, H4, H5, H6, H7⟩
    isplitl [Hlo]; · iexact Hlo
    isplitl [Hhi]; · iexact Hhi
    isplitl [H5]; · iexact H5
    isplitl [H4]; · iexact H4
    isplitl [H7]; · iexact H7
    isplitl [H6]; · iexact H6
    isplitl [H3]; · iexact H3
    iexact H2

/-- A device's state before its only grid step. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (scratch_eq (F := F) c).2; iexact Hr

/-- A device's state after its only grid step gives back what the launch lent. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  rw [← sems0_eq]
  iintro ⟨Hr, Hu, Ho⟩
  isplitl [Hu]; · iexact Hu
  isplitl [Ho]; · iexact Ho
  iapply (scratch_eq (F := F) c).1; iexact Hr

/-- The levels allow the waits of the pipeline's own cells. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What a window's array on device `c` holds in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of sixteen devices, for any float values, from any memory with zero counters: every weakly fair execution
    of the program terminates, with each device's arrays at their computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input's array holds after the run what it held. -/
theorem finalA_in (c : Dev nD) : finalA m ρ c (0 : Fin 2) = (s₀ m ρ).mem (win0_0.arr.view.loc (c : Thread nD τ)) :=
  (dats (F := F) m ρ 0 c).arrAt_in (0 : Fin 2) rfl _

end Cert.Halo

end
-- ==== Proof.Final.lean ====
/-
# The arrays at the end of the run

Each device's input block is its array, and its result array is what the body left.
-/
module

public import proofs.«01_k».proof.Proof.Launch
public import Idealize.ShloMosaic.Lib.Pipeline.ValueKit

@[expose] public section

noncomputable section

namespace Cert.Halo

open Cert.KernelIdeal Cert.KernelIdeal.Gen
open Idealize.ShloMosaic Idealize.ShloMosaic.TcCoe Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-- The input block is the device's array. -/
theorem ublk_eq (c : Dev nD) : ublk m ρ c = m ((c : Thread nD τ).loc main_arg0) := by
  funext y
  refine congrArg (m ((c : Thread nD τ).loc main_arg0)) (show (win0_0.blk (0 : Fin 1)).view.emb y = y from funext fun a => Fin.ext ?_)
  have h : ∀ a, win0_0.index (0 : Fin 1) a = 0 := by decide +kernel
  blk_simp
  rw [h a, Nat.zero_mul, Nat.zero_add]

/-- The result array ends as the body left it. -/
theorem finalA_out (c : Dev nD) : finalA m ρ c (1 : Fin 2) = outAt m ρ c := by
  unfold finalA
  refine (dats m ρ 0 c).arrAt_eq_of_after_last (1 : Fin 2) t₀ (by decide +kernel) _ fun j => ?_
  blk_simp
  rfl

/-- On the mesh of sixteen devices, for any float values, from any memory with zero counters: every weakly fair execution
    terminates with each device's result array at `outAt`, its input array unchanged and every counter at zero. -/
theorem run_value : θ_run defs (onTc (τ := τ) (main (F := F))) ⟨m, fun _ => 0, ρ⟩ (fun r =>
    (∀ c : Dev nD, r.2.mem ((c : Thread nD τ).loc main_v1) = outAt m ρ c
      ∧ r.2.mem ((c : Thread nD τ).loc main_arg0) = m ((c : Thread nD τ).loc main_arg0))
    ∧ r.2.sem = fun _ => 0) :=
  (θ_run defs _ _).mono (fun r h => ⟨fun c => ⟨(h.1 c (1 : Fin 2)).trans (finalA_out m ρ c), (h.1 c (0 : Fin 2)).trans (finalA_in m ρ c)⟩, h.2⟩)
    (run_main m ρ)

/-- The same with what is said of the result left out. -/
theorem run_frame : θ_run defs (onTc (τ := τ) (main (F := F))) ⟨m, fun _ => 0, ρ⟩ (fun r =>
    (∀ c : Dev nD, r.2.mem ((c : Thread nD τ).loc main_arg0) = m ((c : Thread nD τ).loc main_arg0)) ∧ r.2.sem = fun _ => 0) :=
  (θ_run defs _ _).mono (fun _ h => ⟨fun c => (h.1 c).2, h.2⟩) (run_value m ρ)

end Cert.Halo

end
-- ==== Proof.Equation.lean ====
/-
# The kernel's result is the reference's

Device `c`'s block begins at 64 times its mesh coordinate on each axis. A step inside the mesh's blocks is the step in the
whole array, and the outermost positions of the whole array are those on a face that has no neighbour; so the two sums agree.
-/
module

public import proofs.«01_k».proof.Proof.BlockSum
public import proofs.«01_k».proof.Proof.Reference
public import proofs.«01_k».proof.Proof.Final
public import Idealize.ShloMosaic.Lib.Layout

@[expose] public section

noncomputable section

namespace Cert.Halo

open Idealize.ShloMosaic Idealize.ShloMosaic.TcCoe Idealize.SL.Sem
open Cert.ReferenceIdeal (S128x128x256)
open Cert.KernelIdeal (S64x64x64)

/-- A device of the mesh. -/
abbrev Device : Type := Dev Cert.KernelIdeal.nD

/-- The mesh coordinate of device `c` on axis `a`. -/
def coord (c : Device) : Fin 3 → ℕ := ![c.val / 8, c.val / 4 % 2, c.val % 4]

/-- Device `c`'s part of a whole array. -/
abbrev partOf {α : Type} (c : Device) (u : S128x128x256.Idx → α) : S64x64x64.Idx → α :=
  Layout.blockN S64x64x64 S128x128x256 (Layout.meshBlock [2, 2, 4] ![[0], [1], [2]] c) u

/-- The blocks tile the whole array. -/
theorem tiles : Layout.TilesN S64x64x64 S128x128x256 (fun b : Fin 3 => Layout.cutSize [2, 2, 4] ((![[0], [1], [2]] : Fin 3 → List ℕ) b)) := by decide

/-- The position in the whole array of position `i` of device `c`'s block. -/
def whole (c : Device) (i : S64x64x64.Idx) : S128x128x256.Idx := tiles.idx (Layout.meshBlock [2, 2, 4] ![[0], [1], [2]] c) i

/-- An element of a part. -/
theorem partOf_apply {α : Type} (c : Device) (u : S128x128x256.Idx → α) (i : S64x64x64.Idx) : partOf c u i = u (whole c i) := rfl

/-- The layout's block index is the mesh coordinate. -/
theorem coord_eq (c : Device) (a : Fin 3) :
    (Layout.meshBlock (r := 3) [2, 2, 4] ![[0], [1], [2]] c (by decide) a).val = coord c a := by revert c a; decide

/-- The coordinates of a position in the whole array. -/
theorem whole_val (c : Device) (i : S64x64x64.Idx) (a : Fin 3) : (whole c i a).val = coord c a * 64 + (i a).val := by
  rw [← coord_eq, ← size_64 a]
  exact Layout.TilesN.idx_val tiles _ i a

/-- Going to a neighbour moves the mesh coordinate on the direction's axis by one. -/
theorem coord_nbr (j : Dir) (c : Device) (h : has j c = true) (a : Fin 3) : coord (nbr j c) a + down j a = coord c a + up j a := by
  revert j c a; decide

/-- There is a neighbour where the coordinate is not the mesh's last that way. -/
theorem has_iff (j : Dir) (c : Device) :
    has j c = true ↔ if edge j = 0 then 0 < coord c (axis j) else (coord c (axis j) + 1) * 64 < S128x128x256.size (axis j) := by
  revert j c; decide

/-- Where a direction's face lies, and what its step is. -/
theorem edge_stride (j : Dir) : (edge j = 0 ∧ stride j = 63) ∨ (edge j = 63 ∧ stride j = 1) := by revert j; decide
/-- Each axis has a direction down it. -/
theorem dir_low (a : Fin 3) : ∃ j, axis j = a ∧ edge j = 0 := by revert a; decide
/-- Each axis has a direction up it. -/
theorem dir_high (a : Fin 3) : ∃ j, axis j = a ∧ edge j = 63 := by revert a; decide

/-- Blocks end within the whole array. -/
theorem coord_lt (c : Device) (a : Fin 3) : (coord c a + 1) * 64 ≤ S128x128x256.size a := by revert c a; decide
/-- Each of the whole array's sizes is a multiple of 64. -/
theorem size_blocks (a : Fin 3) : S128x128x256.size a % 64 = 0 := by revert a; decide

/-- The inner positions of the whole array are those on no face without a neighbour. -/
theorem inner_whole (c : Device) (i : S64x64x64.Idx) : Inner (whole c i) ↔ ∀ j, OnFace j i → has j c = true := by
  constructor
  · intro h j hf
    have hw := h (axis j)
    rw [whole_val, show (i (axis j)).val = edge j from hf] at hw
    rw [has_iff]
    rcases edge_stride j with ⟨he, -⟩ | ⟨he, -⟩
    · rw [if_pos he]; omega
    · rw [if_neg (by omega)]; omega
  · intro h a
    rw [whole_val]
    have hi := idx_lt i a
    have hc := coord_lt c a
    have hm := size_blocks a
    constructor
    · obtain ⟨j, rfl, he⟩ := dir_low a
      by_contra hn
      have := (has_iff j c).mp (h j (show (i (axis j)).val = edge j by omega))
      rw [if_pos he] at this; omega
    · obtain ⟨j, rfl, he⟩ := dir_high a
      by_contra hn
      have := (has_iff j c).mp (h j (show (i (axis j)).val = edge j by omega))
      rw [if_neg (by omega)] at this; omega

/-- A step among the blocks is the step in the whole array. -/
theorem whole_step (j : Dir) (c : Device) (i : S64x64x64.Idx) (h : OnFace j i → has j c = true) :
    whole (holder j c i) (step j i) = wstep j (whole c i) := by
  refine funext fun a => Fin.ext ?_
  have hlt : (whole (holder j c i) (step j i) a).val < S128x128x256.size a := (whole (holder j c i) (step j i) a).isLt
  suffices e : (whole (holder j c i) (step j i) a).val = (whole c i a).val + up j a - down j a by
    show _ = ((whole c i a).val + up j a - down j a) % S128x128x256.size a
    rw [← e, Nat.mod_eq_of_lt hlt]
  have hi := idx_lt i a
  rw [whole_val, whole_val, step_val]
  by_cases ha : a = axis j
  · subst ha
    by_cases hf : OnFace j i
    · have hn := coord_nbr j c (h hf) (axis j)
      have hf' : (i (axis j)).val = edge j := hf
      unfold holder
      rw [if_pos hf]
      rcases edge_stride j with ⟨he, hs⟩ | ⟨he, hs⟩ <;> simp [up, down, he, hs] at hn ⊢ <;> omega
    · have hf' : (i (axis j)).val ≠ edge j := hf
      unfold holder
      rw [if_neg hf]
      rcases edge_stride j with ⟨he, hs⟩ | ⟨he, hs⟩ <;> simp [up, down, he, hs] <;> omega
  · have hu : up j a = 0 := if_neg fun hh => ha hh.1
    have hd : down j a = 0 := if_neg fun hh => ha hh.1
    have hh : coord (holder j c i) a = coord c a := by
      unfold holder
      split
      · next hf => have := coord_nbr j c (h hf) a; omega
      · rfl
    rw [if_neg ha, hh, hu, hd]; omega

variable (m : (ℓ : Loc Cert.KernelIdeal.nD Cert.KernelIdeal.τ Cert.KernelIdeal.sig) → Buf (Elt Ideal) ℓ) (ρ : Device → PrngReg)

/-- Where each device's input is its part of the whole input, its result is its part of the reference's. -/
theorem outAt_eq (u : FVec Ideal S128x128x256 .f32)
    (hu : ∀ c : Device, m ((c.tc : Thread Cert.KernelIdeal.nD Cert.KernelIdeal.τ).loc Cert.KernelIdeal.main_arg0) = partOf c u) (c : Device) :
    outAt m ρ c = partOf c (refTerm u) := by
  have hb : ∀ (d : Device) (k : S64x64x64.Idx), block m ρ d k = u (whole d k) := fun d k => congrFun ((ublk_eq m ρ d).trans (hu d)) k
  refine funext fun i => (outAt_apply m ρ c i).trans ?_
  rw [partOf_apply, refTerm_apply]
  by_cases hin : ∀ j, OnFace j i → has j c = true
  · rw [if_pos hin, if_pos ((inner_whole c i).mpr hin), hb, add_comm, ← sub_eq_add_neg]
    refine congrArg (fun l : List EReal => l.sum - _) (List.map_congr_left fun j _ => ?_)
    rw [hb, whole_step j c i (hin j)]
  · rw [if_neg hin, if_neg fun h => hin ((inner_whole c i).mp h)]

end Cert.Halo

end
-- ==== Proof.Claims.lean ====
/-
# The claims

The frames of the kernel, of its reading over the extended reals and of the reference, and the equality of the two results.
-/
module

public import proofs.«01_k».proof.Defs
public import proofs.«01_k».proof.Proof.Gen.Kernel
public import proofs.«01_k».proof.Proof.Gen.ReferenceIdeal.Run
public import proofs.«01_k».proof.Proof.Equation
public import Idealize.ShloMosaic.Lib.Quiescent

@[expose] public section

noncomputable section

namespace Cert.Halo

open Idealize.ShloMosaic Idealize.ShloMosaic.TcCoe Idealize.SL.Sem

/-- The two printed programs launch the same body. -/
theorem launched_eq : Kernel.defs₀ (F := Bits) = KernelIdeal.defs₀ (F := Bits) := by
  refine congrArg (Defs.onTc (nD := 16) (τ := Kernel.τ) (sig := Kernel.sig) (Val := Elt Bits) (Λ := Kernel.Λ₀)) (funext fun l => funext fun a => ?_)
  match l, a with
  | 0, (t, s) => rfl
  | ⟨_ + 1, h⟩, _ => exact absurd h (Nat.not_lt.2 (Nat.le_add_left _ _))

/-- So their definitions are the same. -/
theorem defs_eq : Kernel.defs (F := Bits) = KernelIdeal.defs (F := Bits) := congrArg (Pipeline.defs _) launched_eq

/-- The kernel on machine floats runs, leaves its input as it was, and ends with every counter at zero. -/
theorem frame_kernel : Cert.quiescent_Kernel := fun m ρ _ => by
  rw [defs_eq]
  exact run_frame (F := Bits) m ρ

/-- The same of the kernel on extended reals. -/
theorem frame_ideal : Cert.quiescent_KernelIdeal := fun m ρ _ => run_frame (F := Ideal) m ρ

/-- The reference runs and leaves its input as it was; it has no semaphore. -/
theorem frame_reference : Cert.quiescent_ReferenceIdeal := fun m ρ _ =>
  (θ_run _ _ _).mono (fun r h => ⟨fun c => (h c).2, sem_eq_zero_of_no_sems (by decide) r.2⟩) (Cert.ReferenceIdeal.Value.run m ρ)

/-- Over the extended reals the devices' results are together the reference's result. -/
theorem results_equal : Cert.algebraic_KernelIdeal_ReferenceIdeal := fun m ρ m' ρ' _ hin =>
  ⟨refTerm (m' (((0 : Dev ReferenceIdeal.nD).tc : Thread ReferenceIdeal.nD ReferenceIdeal.τ).loc ReferenceIdeal.main_arg0)),
    (θ_run _ _ _).mono (fun _ h c => ⟨(h.1 c).1.trans (outAt_eq m ρ _ hin c), (h.1 c).2⟩) (run_value m ρ),
    (θ_run _ _ _).mono (fun _ h => ⟨(h 0).1, (h 0).2⟩) (Cert.ReferenceIdeal.Value.run m' ρ')⟩

end Cert.Halo

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- All five claims. -/
theorem claim : Cert.Claim := ⟨Cert.Kernel.Gen.facts, Cert.KernelIdeal.Gen.facts, Cert.ReferenceIdeal.Gen.facts,
  Cert.Halo.frame_kernel, Cert.Halo.frame_ideal, Cert.Halo.frame_reference, trivial, Cert.Halo.results_equal⟩

end Cert.Proof

end
